-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v0_1) = v3 c
          ∧ r.2.mem ((c.tc : Thread Cert.ReferenceIdeal.nD Cert.ReferenceIdeal.τ).loc Cert.ReferenceIdeal.main_v0_2) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x5120 : Shape := ⟨3, ![2, 1024, 5120]⟩
abbrev S2x1024x1280 : Shape := ⟨3, ![2, 1024, 1280]⟩
abbrev S1280x5120 : Shape := ⟨2, ![1280, 5120]⟩
abbrev S1 : Shape := ⟨1, ![1]⟩
abbrev S2048x1280 : Shape := ⟨2, ![2048, 1280]⟩
abbrev S2048x5120 : Shape := ⟨2, ![2048, 5120]⟩
abbrev S1x1280 : Shape := ⟨2, ![1, 1280]⟩
abbrev S1x2048 : Shape := ⟨2, ![1, 2048]⟩
abbrev S2048x512 : Shape := ⟨2, ![2048, 512]⟩
abbrev S1280x512 : Shape := ⟨2, ![1280, 512]⟩
abbrev S1280x2048 : Shape := ⟨2, ![1280, 2048]⟩
abbrev S2048x128 : Shape := ⟨2, ![2048, 128]⟩
abbrev S256x1280 : Shape := ⟨2, ![256, 1280]⟩
abbrev S1280x256 : Shape := ⟨2, ![1280, 256]⟩
abbrev S1280 : Shape := ⟨1, ![1280]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S2048x1 : Shape := ⟨2, ![2048, 1]⟩
abbrev S2x1024 : Shape := ⟨2, ![2, 1024]⟩

abbrev nBuf : Space → Nat
  | .hbm => 15
  | .vmem => 15
  | .smem => 1
  | _ => 0

abbrev bufTy : (tb : Table) → Fin (tcTables nBuf tb) → BufTy
  | .hbm, ⟨0, _⟩ => ⟨S2x1024x5120, .bf16⟩
  | .hbm, ⟨1, _⟩ => ⟨S2x1024x1280, .bf16⟩
  | .hbm, ⟨2, _⟩ => ⟨S1280x5120, .i8⟩
  | .hbm, ⟨3, _⟩ => ⟨S1, .f32⟩
  | .hbm, ⟨4, _⟩ => ⟨S2048x1280, .bf16⟩
  | .hbm, ⟨5, _⟩ => ⟨S2048x5120, .bf16⟩
  | .hbm, ⟨6, _⟩ => ⟨S2048x5120, .bf16⟩
  | .hbm, ⟨7, _⟩ => ⟨S1280x5120, .f32⟩
  | .hbm, ⟨8, _⟩ => ⟨S1x1280, .f32⟩
  | .hbm, ⟨9, _⟩ => ⟨S2048x1280, .i8⟩
  | .hbm, ⟨10, _⟩ => ⟨S1x2048, .f32⟩
  | .hbm, ⟨11, _⟩ => ⟨S2x1024x5120, .bf16⟩
  | .hbm, ⟨12, _⟩ => ⟨S1280, .f32⟩
  | .hbm, ⟨13, _⟩ => ⟨S2x1024x1280, .i8⟩
  | .hbm, ⟨14, _⟩ => ⟨S2x1024, .f32⟩
  | .local _ .vmem, ⟨0, _⟩ => ⟨S2048x1280, .bf16⟩
  | .local _ .vmem, ⟨1, _⟩ => ⟨S2048x512, .bf16⟩
  | .local _ .vmem, ⟨2, _⟩ => ⟨S2048x512, .bf16⟩
  | .local _ .vmem, ⟨3, _⟩ => ⟨S1280x512, .i8⟩
  | .local _ .vmem, ⟨4, _⟩ => ⟨S1280x512, .i8⟩
  | .local _ .vmem, ⟨5, _⟩ => ⟨S2048x512, .bf16⟩
  | .local _ .vmem, ⟨6, _⟩ => ⟨S2048x512, .bf16⟩
  | .local _ .vmem, ⟨7, _⟩ => ⟨S1280x512, .f32⟩
  | .local _ .vmem, ⟨8, _⟩ => ⟨S1280x512, .f32⟩
  | .local _ .vmem, ⟨9, _⟩ => ⟨S1x1280, .f32⟩
  | .local _ .vmem, ⟨10, _⟩ => ⟨S2048x1280, .i8⟩
  | .local _ .vmem, ⟨11, _⟩ => ⟨S1x2048, .f32⟩
  | .local _ .vmem, ⟨12, _⟩ => ⟨S2048x1280, .bf16⟩
  | .local _ .vmem, ⟨13, _⟩ => ⟨S1280x2048, .bf16⟩
  | .local _ .vmem, ⟨14, _⟩ => ⟨S2048x128, .f32⟩
  | .local _ .smem, ⟨0, _⟩ => ⟨S1, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x1024x5120 : Shape := ⟨3, ![2, 1024, 5120]⟩
abbrev S2x1024x1280 : Shape := ⟨3, ![2, 1024, 1280]⟩
abbrev S1280x5120 : Shape := ⟨2, ![1280, 5120]⟩
abbrev S1 : Shape := ⟨1, ![1]⟩
abbrev S2x1024 : Shape := ⟨2, ![2, 1024]⟩
abbrev S2x1024x1 : Shape := ⟨3, ![2, 1024, 1]⟩
abbrev S_ : Shape := ⟨0, ![]⟩
abbrev S1280 : Shape := ⟨1, ![1280]⟩

abbrev nBuf : Space → Nat
  | .hbm => 11
  | .vmem => 5
  | .smem => 1
  | _ => 0

abbrev bufTy : (tb : Table) → Fin (tcTables nBuf tb) → BufTy
  | .hbm, ⟨0, _⟩ => ⟨S2x1024x5120, .bf16⟩
  | .hbm, ⟨1, _⟩ => ⟨S2x1024x1280, .bf16⟩
  | .hbm, ⟨2, _⟩ => ⟨S1280x5120, .i8⟩
  | .hbm, ⟨3, _⟩ => ⟨S1, .f32⟩
  | .hbm, ⟨4, _⟩ => ⟨S2x1024x5120, .bf16⟩
  | .hbm, ⟨5, _⟩ => ⟨S2x1024x1280, .i8⟩
  | .hbm, ⟨6, _⟩ => ⟨S2x1024, .f32⟩
  | .hbm, ⟨7, _⟩ => ⟨S1280x5120, .f32⟩
  | .hbm, ⟨8, _⟩ => ⟨S2x1024x1280, .f32⟩
  | .hbm, ⟨9, _⟩ => ⟨S_, .f32⟩
  | .hbm, ⟨10, _⟩ => ⟨S1280, .f32⟩
  | .local _ .vmem, ⟨0, _⟩ => ⟨S2x1024x1280, .bf16⟩
  | .local _ .vmem, ⟨1, _⟩ => ⟨S1280x5120, .i8⟩
  | .local _ .vmem, ⟨2, _⟩ => ⟨S2x1024x5120, .bf16⟩
  | .local _ .vmem, ⟨3, _⟩ => ⟨S2x1024x1280, .i8⟩
  | .local _ .vmem, ⟨4, _⟩ => ⟨S2x1024, .f32⟩
  | .local _ .smem, ⟨0, _⟩ => ⟨S1, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x1280 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BodyRuns.lean ====
/-
  The kernel's body, what every case of it needs: the condition of its one `scf.if` in closed form, the staging memrefs
  its windows pass it, and its three scratch buffers as memrefs.
-/
module

public import proofs.«01_k».proof.Proof.Gen.KernelIdeal.Frame

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1280 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x1280 .bf16 := Memref.whole cc0_scratch0
abbrev scM0_1 : Memref sig .tc .vmem S1280x2048 .bf16 := Memref.whole cc0_scratch1
abbrev scM0_2 : Memref sig .tc .vmem S2048x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.BodySpec.lean ====
/-
  What the first grid point leaves in the buffers that survive it, as functions of the whole `dy` block: the kernel walks
  `dy` in eight chunks of 256 rows, and every buffer holds, chunk by chunk, one payload of the printed body.
-/
module

public import proofs.«01_k».proof.Proof.BodyRuns
public import proofs.«01_k».proof.Proof.Gen.KernelIdeal.Skeleton
public import Idealize.ShloMosaic.Lib.Pipeline.ValueKit
public import Idealize.ShloMosaic.Lib.TwoAxisContraction
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (idx2_lt0 idx2_lt1)

/-! ## Eight tiles stacked along the rows, or along the columns -/

/-- Eight tiles of 256 rows as one array of 2048 rows: row `i` is row `i % 256` of tile `i / 256`. -/
def stackRows {α : Type} {n : ℕ} (f : Fin 8 → (⟨2, ![256, n]⟩ : Shape).Idx → α) : (⟨2, ![2048, n]⟩ : Shape).Idx → α :=
  fun i => f ⟨(i 0).val / 256, by have h : (i 0).val < 2048 := idx2_lt0 i; omega⟩
    (ix2 ⟨(i 0).val % 256, Nat.mod_lt _ (by norm_num)⟩ ⟨(i 1).val, idx2_lt1 i⟩)

/-- Eight tiles of 256 columns as one array of 2048 columns: column `i` is column `i % 256` of tile `i / 256`. -/
def stackCols {α : Type} {n : ℕ} (f : Fin 8 → (⟨2, ![n, 256]⟩ : Shape).Idx → α) : (⟨2, ![n, 2048]⟩ : Shape).Idx → α :=
  fun i => f ⟨(i 1).val / 256, by have h : (i 1).val < 2048 := idx2_lt1 i; omega⟩
    (ix2 ⟨(i 0).val, idx2_lt0 i⟩ ⟨(i 1).val % 256, Nat.mod_lt _ (by norm_num)⟩)

/-- Tile `r` of the rows, read through the rectangle of its rows. -/
theorem stackRows_emb {α : Type} {n : ℕ} (f : Fin 8 → (⟨2, ![256, n]⟩ : Shape).Idx → α) (r : Fin 8)
    (inb : ∀ a, (![256 * r.val, 0] : Fin 2 → Nat) a + (⟨2, ![256, n]⟩ : Shape).size a ≤ (⟨2, ![2048, n]⟩ : Shape).size a)
    (x : (⟨2, ![256, n]⟩ : Shape).Idx) :
    stackRows f ((Rect.unit (s := ⟨2, ![2048, n]⟩) ![256 * r.val, 0] (⟨2, ![256, n]⟩ : Shape).size inb).emb x) = f r x := by
  have h0 : (x 0).val < 256 := idx2_lt0 x
  have e0 : (((Rect.unit (s := ⟨2, ![2048, n]⟩) ![256 * r.val, 0] (⟨2, ![256, n]⟩ : Shape).size inb).emb x) 0).val = 256 * r.val + (x 0).val := by
    exact Rect.idx_unit_val (s := ⟨2, ![2048, n]⟩) ![256 * r.val, 0] (⟨2, ![256, n]⟩ : Shape).size inb x 0
  have e1 : (((Rect.unit (s := ⟨2, ![2048, n]⟩) ![256 * r.val, 0] (⟨2, ![256, n]⟩ : Shape).size inb).emb x) 1).val = 0 + (x 1).val := by
    exact Rect.idx_unit_val (s := ⟨2, ![2048, n]⟩) ![256 * r.val, 0] (⟨2, ![256, n]⟩ : Shape).size inb x 1
  unfold stackRows
  congr 1
  · apply Fin.ext; show _ / 256 = r.val; rw [e0]; omega
  · refine Eq.trans (congrArg₂ ix2 (Fin.ext ?_) (Fin.ext ?_)) (eq_ix2 x).symm
    · show _ % 256 = (x 0).val; rw [e0]; omega
    · show Fin.val _ = (x 1).val; rw [e1]; omega

/-- Tile `r` of the columns, read through the rectangle of its columns. -/
theorem stackCols_emb {α : Type} {n : ℕ} (f : Fin 8 → (⟨2, ![n, 256]⟩ : Shape).Idx → α) (r : Fin 8)
    (inb : ∀ a, (![0, 256 * r.val] : Fin 2 → Nat) a + (⟨2, ![n, 256]⟩ : Shape).size a ≤ (⟨2, ![n, 2048]⟩ : Shape).size a)
    (x : (⟨2, ![n, 256]⟩ : Shape).Idx) :
    stackCols f ((Rect.unit (s := ⟨2, ![n, 2048]⟩) ![0, 256 * r.val] (⟨2, ![n, 256]⟩ : Shape).size inb).emb x) = f r x := by
  have h0 : (x 1).val < 256 := idx2_lt1 x
  have e0 : (((Rect.unit (s := ⟨2, ![n, 2048]⟩) ![0, 256 * r.val] (⟨2, ![n, 256]⟩ : Shape).size inb).emb x) 0).val = 0 + (x 0).val := by
    exact Rect.idx_unit_val (s := ⟨2, ![n, 2048]⟩) ![0, 256 * r.val] (⟨2, ![n, 256]⟩ : Shape).size inb x 0
  have e1 : (((Rect.unit (s := ⟨2, ![n, 2048]⟩) ![0, 256 * r.val] (⟨2, ![n, 256]⟩ : Shape).size inb).emb x) 1).val = 256 * r.val + (x 1).val := by
    exact Rect.idx_unit_val (s := ⟨2, ![n, 2048]⟩) ![0, 256 * r.val] (⟨2, ![n, 256]⟩ : Shape).size inb x 1
  unfold stackCols
  congr 1
  · apply Fin.ext; show _ / 256 = r.val; rw [e1]; omega
  · refine Eq.trans (congrArg₂ ix2 (Fin.ext ?_) (Fin.ext ?_)) (eq_ix2 x).symm
    · show Fin.val _ = (x 0).val; rw [e0]; omega
    · show _ % 256 = (x 1).val; rw [e1]; omega

/-! ## Reading back eight tile stores -/

/-- The stores of eight tiles of rows, last first. -/
abbrev rowPieces {e : EltTy} {n : ℕ} (f : Fin 8 → (⟨2, ![256, n]⟩ : Shape).Idx → Elt F e)
    (inb : ∀ (r : Fin 8) a, (![256 * r.val, 0] : Fin 2 → Nat) a + (⟨2, ![256, n]⟩ : Shape).size a ≤ (⟨2, ![2048, n]⟩ : Shape).size a) :
    List (View.Piece (Elt F) (⟨2, ![2048, n]⟩ : Shape) e) :=
  [7, 6, 5, 4, 3, 2, 1, 0].map fun r : Fin 8 => ⟨Rect.unit (s := ⟨2, ![2048, n]⟩) ![256 * r.val, 0] (⟨2, ![256, n]⟩ : Shape).size (inb r), f r⟩

/-- The stores of eight tiles of columns, last first. -/
abbrev colPieces {e : EltTy} {n : ℕ} (f : Fin 8 → (⟨2, ![n, 256]⟩ : Shape).Idx → Elt F e)
    (inb : ∀ (r : Fin 8) a, (![0, 256 * r.val] : Fin 2 → Nat) a + (⟨2, ![n, 256]⟩ : Shape).size a ≤ (⟨2, ![n, 2048]⟩ : Shape).size a) :
    List (View.Piece (Elt F) (⟨2, ![n, 2048]⟩ : Shape) e) :=
  [7, 6, 5, 4, 3, 2, 1, 0].map fun r : Fin 8 => ⟨Rect.unit (s := ⟨2, ![n, 2048]⟩) ![0, 256 * r.val] (⟨2, ![n, 256]⟩ : Shape).size (inb r), f r⟩

/-- Every tile number is in the list of stores. -/
theorem mem_tiles : ∀ r : Fin 8, r ∈ ([7, 6, 5, 4, 3, 2, 1, 0] : List (Fin 8)) := by decide

/-- Each store of tiles of rows agrees with the stacked array. -/
theorem rowPieces_agree {e : EltTy} {n : ℕ} (f : Fin 8 → (⟨2, ![256, n]⟩ : Shape).Idx → Elt F e) (inb) :
    ∀ p ∈ rowPieces f inb, ∀ x : p.1.shape.Idx, p.2 x = stackRows f (p.1.emb x) := by
  intro p hp x
  obtain ⟨r, -, rfl⟩ := List.mem_map.mp hp
  exact (stackRows_emb f r (inb r) x).symm

/-- The stores of tiles of rows cover the array. -/
theorem rowPieces_cover {e : EltTy} {n : ℕ} (f : Fin 8 → (⟨2, ![256, n]⟩ : Shape).Idx → Elt F e) (inb)
    (y : (⟨2, ![2048, n]⟩ : Shape).Idx) : ∃ p ∈ rowPieces f inb, y ∈ p.1.set := by
  have h0 : (y 0).val < 2048 := idx2_lt0 y
  have h1 : (y 1).val < n := idx2_lt1 y
  refine ⟨_, List.mem_map.mpr ⟨⟨(y 0).val / 256, by omega⟩, mem_tiles _, rfl⟩, ?_⟩
  rw [Rect.mem_set_unit]
  intro a
  match a with
  | 0 =>
    show 256 * ((y 0).val / 256) ≤ (y 0).val ∧ (y 0).val < 256 * ((y 0).val / 256) + 256
    omega
  | 1 =>
    show 0 ≤ (y 1).val ∧ (y 1).val < 0 + n
    omega

/-- Each store of tiles of columns agrees with the stacked array. -/
theorem colPieces_agree {e : EltTy} {n : ℕ} (f : Fin 8 → (⟨2, ![n, 256]⟩ : Shape).Idx → Elt F e) (inb) :
    ∀ p ∈ colPieces f inb, ∀ x : p.1.shape.Idx, p.2 x = stackCols f (p.1.emb x) := by
  intro p hp x
  obtain ⟨r, -, rfl⟩ := List.mem_map.mp hp
  exact (stackCols_emb f r (inb r) x).symm

/-- The stores of tiles of columns cover the array. -/
theorem colPieces_cover {e : EltTy} {n : ℕ} (f : Fin 8 → (⟨2, ![n, 256]⟩ : Shape).Idx → Elt F e) (inb)
    (y : (⟨2, ![n, 2048]⟩ : Shape).Idx) : ∃ p ∈ colPieces f inb, y ∈ p.1.set := by
  have h0 : (y 1).val < 2048 := idx2_lt1 y
  have h1 : (y 0).val < n := idx2_lt0 y
  refine ⟨_, List.mem_map.mpr ⟨⟨(y 1).val / 256, by omega⟩, mem_tiles _, rfl⟩, ?_⟩
  rw [Rect.mem_set_unit]
  intro a
  match a with
  | 0 =>
    show 0 ≤ (y 0).val ∧ (y 0).val < 0 + n
    omega
  | 1 =>
    show 256 * ((y 1).val / 256) ≤ (y 1).val ∧ (y 1).val < 256 * ((y 1).val / 256) + 256
    omega

/-- A buffer after the eight stores of tiles of rows reads the stacked array. -/
theorem read_rowPieces {e : EltTy} {n : ℕ} {sp : Space} (v : View sig .tc sp (⟨2, ![2048, n]⟩ : Shape) e) (g : v.ty.Contents (Elt F))
    (f : Fin 8 → (⟨2, ![256, n]⟩ : Shape).Idx → Elt F e) (inb) :
    v.read (Elt F) (v.writes (Elt F) g (rowPieces f inb)) = stackRows f :=
  funext fun y => View.read_writes_apply_of_pieces v g (stackRows f) _ (rowPieces_agree f inb) y (rowPieces_cover f inb y)

/-- A buffer after the eight stores of tiles of columns reads the stacked array. -/
theorem read_colPieces {e : EltTy} {n : ℕ} {sp : Space} (v : View sig .tc sp (⟨2, ![n, 2048]⟩ : Shape) e) (g : v.ty.Contents (Elt F))
    (f : Fin 8 → (⟨2, ![n, 256]⟩ : Shape).Idx → Elt F e) (inb) :
    v.read (Elt F) (v.writes (Elt F) g (colPieces f inb)) = stackCols f :=
  funext fun y => View.read_writes_apply_of_pieces v g (stackCols f) _ (colPieces_agree f inb) y (colPieces_cover f inb y)

/-- A load after the eight stores of tiles of rows reads the stacked array through its rectangle. -/
theorem readCov_rowPieces {e : EltTy} {n : ℕ} {sp : Space} (v : View sig .tc sp (⟨2, ![2048, n]⟩ : Shape) e)
    (f : Fin 8 → (⟨2, ![256, n]⟩ : Shape).Idx → Elt F e) (inb) (r : Rect (⟨2, ![2048, n]⟩ : Shape)) :
    v.readCov (rowPieces f inb) r.toLoadRect = View.ld (stackRows f) r := by
  rw [View.readCov_eq_canon_ld v _ r (rowPieces_cover f inb),
    show View.canon (rowPieces f inb) = stackRows f from
      funext fun y => View.canon_apply_of_pieces (stackRows f) _ (rowPieces_agree f inb) y (rowPieces_cover f inb y)]

/-- A load after the eight stores of tiles of columns reads the stacked array through its rectangle. -/
theorem readCov_colPieces {e : EltTy} {n : ℕ} {sp : Space} (v : View sig .tc sp (⟨2, ![n, 2048]⟩ : Shape) e)
    (f : Fin 8 → (⟨2, ![n, 256]⟩ : Shape).Idx → Elt F e) (inb) (r : Rect (⟨2, ![n, 2048]⟩ : Shape)) :
    v.readCov (colPieces f inb) r.toLoadRect = View.ld (stackCols f) r := by
  rw [View.readCov_eq_canon_ld v _ r (colPieces_cover f inb),
    show View.canon (colPieces f inb) = stackCols f from
      funext fun y => View.canon_apply_of_pieces (stackCols f) _ (colPieces_agree f inb) y (colPieces_cover f inb y)]

/-! ## The chunks and what is kept of them -/

/-- Rows `256 r … 256 r + 255` of `dy` lie inside it. -/
theorem inb_rows : ∀ (r : Fin 8) a, (![256 * r.val, 0] : Fin 2 → Nat) a + S256x1280.size a ≤ S2048x1280.size a := by decide +kernel

/-- Chunk `r` of `dy`: its rows `256 r … 256 r + 255`. -/
def chunk (dy : Vec F S2048x1280 .bf16) (r : Fin 8) : Vec F S256x1280 .bf16 :=
  View.ld dy (Rect.unit (s := S2048x1280) ![256 * r.val, 0] S256x1280.size (inb_rows r))

/-- What the body's load of chunk `r` of the `dy` buffer reads, the buffer holding `dy`. -/
def loaded (a : Memref sig .tc .vmem S2048x1280 .bf16) (ha : a.IsWhole) (dy : Vec F S2048x1280 .bf16) (r : Fin 8) : Vec F S256x1280 .bf16 :=
  View.readAt (Elt F) a.view (Rect.unit (s := S2048x1280) ![256 * r.val, 0] S256x1280.size (inb_rows r)).toLoadRect (ha.unread dy)

/-- It reads the chunk. -/
theorem loaded_eq (a : Memref sig .tc .vmem S2048x1280 .bf16) (ha : a.IsWhole) (dy : Vec F S2048x1280 .bf16) : loaded a ha dy = chunk dy := by
  funext r
  unfold loaded chunk
  rw [View.readAt_eq_ld, ha.read_unread]

/-- The rectangles of the tiles lie inside their buffers. -/
theorem inb_lanes : ∀ (r : Fin 8) a, (![256 * r.val, 0] : Fin 2 → Nat) a + S256x128.size a ≤ S2048x128.size a := by decide +kernel
theorem inb_row : ∀ (r : Fin 8) a, (![0, 256 * r.val] : Fin 2 → Nat) a + S1x256.size a ≤ S1x2048.size a := by decide +kernel
theorem inb_cols : ∀ (r : Fin 8) a, (![0, 256 * r.val] : Fin 2 → Nat) a + S1280x256.size a ≤ S1280x2048.size a := by decide +kernel

/-- The int8 codes of `dy`. -/
def codesOf (dy : Vec F S2048x1280 .bf16) : Vec F S2048x1280 .i8 := stackRows fun r => k0_pay13 (chunk dy r)

/-- The codes again, in bf16: the left operand of the first matmul. -/
def codesBf (dy : Vec F S2048x1280 .bf16) : Vec F S2048x1280 .bf16 := stackRows fun r => k0_pay14 (chunk dy r)

/-- `dy` transposed: the left operand of the second matmul. -/
def dyT (dy : Vec F S2048x1280 .bf16) : Vec F S1280x2048 .bf16 := stackCols fun r => k0_pay9 (chunk dy r)

/-- The scale of each row, repeated over 128 lanes. -/
def scaleCols (dy : Vec F S2048x1280 .bf16) : Vec F S2048x128 .f32 := stackRows fun r => k0_pay16 (chunk dy r)

/-- The scale of each row, as one row. -/
def scaleRow (dy : Vec F S2048x1280 .bf16) : Vec F S1x2048 .f32 := stackCols fun r => k0_pay17 (k0_pay15 (chunk dy r))

/-- The column sums of `dy`, chunk after chunk. -/
def colSums (dy : Vec F S2048x1280 .bf16) : Vec F S1x1280 .f32 :=
  k0_pay21 (k0_pay21 (k0_pay21 (k0_pay21 (k0_pay21 (k0_pay21 (k0_pay21 (k0_pay11 (chunk dy 0)) (chunk dy 1)) (chunk dy 2)) (chunk dy 3))
    (chunk dy 4)) (chunk dy 5)) (chunk dy 6)) (chunk dy 7)

/-- The first lane of the repeated scales, as the body loads it. -/
def firstLane (s : Vec F S2048x128 .f32) : Vec F S2048x1 .f32 :=
  View.ld s (Rect.unit (s := S2048x128) ![0, 0] S2048x1.size inb_S2048x128_S2048x1_0_0)

/-- The block of `dx` one grid point writes. -/
def dxBlock (ws : Vec F S1 .f32) (dy : Vec F S2048x1280 .bf16) (w : Vec F S1280x512 .i8) : Vec F S2048x512 .bf16 :=
  k0_pay6 w (codesBf dy) (firstLane (scaleCols dy)) (ws (ix1 0))

/-- The block of `dw` one grid point writes. -/
def dwBlock (dy : Vec F S2048x1280 .bf16) (x : Vec F S2048x512 .bf16) : Vec F S1280x512 .f32 := k0_pay7 (dyT dy) x

end Cert.KernelIdeal.Body

end
-- ==== Proof.BodyFirst.lean ====
/-
  The body at the first grid point.
-/
module

public import proofs.«01_k».proof.Proof.BodySpec

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2000000 in
/-- The body at the first grid point (its `scf.if` taken): from the input blocks at their contents and every other buffer at
    anything, it leaves the inputs as they were, the two blocks this point writes (`dxBlock`, `dwBlock`), the three
    outputs written once (the column sums, the codes, the scales), and the three scratch buffers at the contents every
    later point reads. -/
theorem run_first (c : Dev nD) (i : grid0.Coords) (arg1 : Memref sig .tc .smem S1 .f32) (harg1 : arg1.IsWhole) (arg2 : Memref sig .tc .vmem S2048x1280 .bf16) (harg2 : arg2.IsWhole) (arg3 : Memref sig .tc .vmem S2048x512 .bf16) (harg3 : arg3.IsWhole) (arg4 : Memref sig .tc .vmem S1280x512 .i8) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S1x1280 .f32) (harg7 : arg7.IsWhole) (arg8 : Memref sig .tc .vmem S2048x1280 .i8) (harg8 : arg8.IsWhole) (arg9 : Memref sig .tc .vmem S1x2048 .f32) (harg9 : arg9.IsWhole) (arg10 : Memref sig .tc .vmem S2048x1280 .bf16) (harg10 : arg10.IsWhole) (arg11 : Memref sig .tc .vmem S1280x2048 .bf16) (harg11 : arg11.IsWhole) (arg12 : Memref sig .tc .vmem S2048x128 .f32) (harg12 : arg12.IsWhole) (hc0 : cond0_0 i)
    (x0 : Vec F S1 .f32) (x1 : Vec F S2048x1280 .bf16) (x2 : Vec F S2048x512 .bf16) (x3 : Vec F S1280x512 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dxBlock x0 x1 x3) ∗ owns (c : Thread nD τ) arg6 fullShare (dwBlock x1 x2) ∗ owns (c : Thread nD τ) arg7 fullShare (colSums x1) ∗ owns (c : Thread nD τ) arg8 fullShare (codesOf x1) ∗ owns (c : Thread nD τ) arg9 fullShare (scaleRow x1) ∗ owns (c : Thread nD τ) arg10 fullShare (codesBf x1) ∗ owns (c : Thread nD τ) arg11 fullShare (dyT x1) ∗ owns (c : Thread nD τ) arg12 fullShare (scaleCols x1)) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10 arg11 harg11 arg12 harg12) K := by
    intro E K
    simp only [cc0_switchback_bwd_eq_skeleton]; unfold cc0_switchback_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      refine congr (congr (congr (congrArg k0_pay6 ?_) ?_) ?_) ?_
      · exact (View.readAt_full _ _ _).trans (harg4.read_unread _)
      · refine (readCov_rowPieces arg10.view (fun r => k0_pay14 (loaded arg2 harg2 x1 r)) inb_rows _).trans ?_
        rw [loaded_eq]
        exact View.ld_unit_zero (by decide) _ _
      · refine (readCov_rowPieces arg12.view (fun r => k0_pay16 (loaded arg2 harg2 x1 r)) inb_lanes _).trans ?_
        rw [loaded_eq]; rfl
      · exact (congrFun ((View.readAt_full _ _ _).trans (harg1.read_unread _)) _).trans (congrArg x0 (funext fun a => by
          match a with
          | 0 => rfl))
    isplitl [H5]
    · iexists _; isplitr; swap; · iexact H5
      ipureintro
      refine (View.read_writes_full _ _ _ _ _).trans (congrArg₂ k0_pay7 ?_ ?_)
      · refine (readCov_colPieces arg11.view (fun r => k0_pay9 (loaded arg2 harg2 x1 r)) inb_cols _).trans ?_
        rw [loaded_eq]
        exact View.ld_unit_zero (by decide) _ _
      · exact (View.readAt_full _ _ _).trans (harg3.read_unread _)
    isplitl [H6]
    · iexists _; isplitr; swap; · iexact H6
      ipureintro
      refine (View.read_writes_full _ _ _ _ _).trans ?_
      have e := loaded_eq arg2 harg2 x1
      unfold colSums; rw [← e]; rfl
    isplitl [H7]
    · iexists _; isplitr; swap; · iexact H7
      ipureintro
      refine (read_rowPieces arg8.view _ (fun r => k0_pay13 (loaded arg2 harg2 x1 r)) inb_rows).trans ?_
      rw [loaded_eq]; rfl
    isplitl [H8]
    · iexists _; isplitr; swap; · iexact H8
      ipureintro
      refine (read_colPieces arg9.view _ (fun r => k0_pay17 (k0_pay15 (loaded arg2 harg2 x1 r))) inb_row).trans ?_
      rw [loaded_eq]; rfl
    isplitl [HS0]
    · iexists _; isplitr; swap; · iexact HS0
      ipureintro
      refine (read_rowPieces arg10.view _ (fun r => k0_pay14 (loaded arg2 harg2 x1 r)) inb_rows).trans ?_
      rw [loaded_eq]; rfl
    isplitl [HS1]
    · iexists _; isplitr; swap; · iexact HS1
      ipureintro
      refine (read_colPieces arg11.view _ (fun r => k0_pay9 (loaded arg2 harg2 x1 r)) inb_cols).trans ?_
      rw [loaded_eq]; rfl
    iexists _; isplitr; swap; · iexact HS2
    ipureintro
    refine (read_rowPieces arg12.view _ (fun r => k0_pay16 (loaded arg2 harg2 x1 r)) inb_lanes).trans ?_
    rw [loaded_eq]; rfl

end Cert.KernelIdeal.Body

end
-- ==== Proof.BodyLater.lean ====
/-
  The body at a later grid point.
-/
module

public import proofs.«01_k».proof.Proof.BodyFirst

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2000000 in
/-- The body at a later grid point (its `scf.if` not taken): the scratch buffers are read and left as they were, the
    three outputs written once are not touched, and the two blocks of this point are written from the scratch
    contents `s0`, `s1`, `s2` and the input blocks. -/
theorem run_later (c : Dev nD) (i : grid0.Coords) (arg1 : Memref sig .tc .smem S1 .f32) (harg1 : arg1.IsWhole) (arg2 : Memref sig .tc .vmem S2048x1280 .bf16) (harg2 : arg2.IsWhole) (arg3 : Memref sig .tc .vmem S2048x512 .bf16) (harg3 : arg3.IsWhole) (arg4 : Memref sig .tc .vmem S1280x512 .i8) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S1x1280 .f32) (harg7 : arg7.IsWhole) (arg8 : Memref sig .tc .vmem S2048x1280 .i8) (harg8 : arg8.IsWhole) (arg9 : Memref sig .tc .vmem S1x2048 .f32) (harg9 : arg9.IsWhole) (arg10 : Memref sig .tc .vmem S2048x1280 .bf16) (harg10 : arg10.IsWhole) (arg11 : Memref sig .tc .vmem S1280x2048 .bf16) (harg11 : arg11.IsWhole) (arg12 : Memref sig .tc .vmem S2048x128 .f32) (harg12 : arg12.IsWhole) (hc0 : ¬cond0_0 i)
    (x0 : Vec F S1 .f32) (x1 : Vec F S2048x1280 .bf16) (x2 : Vec F S2048x512 .bf16) (x3 : Vec F S1280x512 .i8)
    (y6 : Vec F S1x1280 .f32) (y7 : Vec F S2048x1280 .i8) (y8 : Vec F S1x2048 .f32)
    (s0 : Vec F S2048x1280 .bf16) (s1 : Vec F S1280x2048 .bf16) (s2 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x3 s0 (firstLane s2) (x0 (ix1 0))) ∗ owns (c : Thread nD τ) arg6 fullShare (k0_pay7 s1 x2) ∗ owns (c : Thread nD τ) arg7 fullShare y6 ∗ owns (c : Thread nD τ) arg8 fullShare y7 ∗ owns (c : Thread nD τ) arg9 fullShare y8 ∗ owns (c : Thread nD τ) arg10 fullShare (s0) ∗ owns (c : Thread nD τ) arg11 fullShare (s1) ∗ owns (c : Thread nD τ) arg12 fullShare (s2)) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10 arg11 harg11 arg12 harg12) K := by
    intro E K
    simp only [cc0_switchback_bwd_eq_skeleton]; unfold cc0_switchback_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%fs0, %hs0, HS0⟩, ⟨%fs1, %hs1, HS1⟩, ⟨%fs2, %hs2, HS2⟩, Hk⟩
    obtain rfl := harg1.eq_unread hf0; obtain rfl := harg2.eq_unread hf1; obtain rfl := harg3.eq_unread hf2; obtain rfl := harg4.eq_unread hf3
    obtain rfl := harg10.eq_unread hs0; obtain rfl := harg11.eq_unread hs1; obtain rfl := harg12.eq_unread hs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      refine congr (congr (congr (congrArg k0_pay6 ?_) ?_) ?_) ?_
      · exact (View.readAt_full _ _ _).trans (harg4.read_unread _)
      · exact (View.readAt_full _ _ _).trans (harg10.read_unread _)
      · refine (View.readAt_eq_ld _ _ _).trans ?_
        rw [harg12.read_unread]; rfl
      · exact (congrFun ((View.readAt_full _ _ _).trans (harg1.read_unread _)) _).trans (congrArg x0 (funext fun a => by
          match a with
          | 0 => rfl))
    isplitl [H5]
    · iexists _; isplitr; swap; · iexact H5
      ipureintro
      refine (View.read_writes_full _ _ _ _ _).trans (congrArg₂ k0_pay7 ?_ ?_)
      · exact (View.readAt_full _ _ _).trans (harg11.read_unread _)
      · exact (View.readAt_full _ _ _).trans (harg3.read_unread _)
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [HS0]
    · iexists _; isplitr; swap; · iexact HS0
      ipureintro; exact harg10.read_unread _
    isplitl [HS1]
    · iexists _; isplitr; swap; · iexact HS1
      ipureintro; exact harg11.read_unread _
    iexists _; isplitr; swap; · iexact HS2
    ipureintro; exact harg12.read_unread _

end Cert.KernelIdeal.Body

end
-- ==== Proof.BodyFrame.lean ====
/-
  The pipeline's proof data with every buffer's contents named, the body obligation at every grid point, and the run of
  @main: every output array ends at what the body's blocks make of it.
-/
module

public import proofs.«01_k».proof.Proof.BodyLater
public import Idealize.ShloMosaic.Lib.Pipeline.TableIdle

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first grid point. -/
abbrev tFirst : Fin cfg0.N := ⟨0, by rw [show cfg0.N = 10 from N_0]; norm_num⟩

/-- The `dy` block: window 1's block, the same at every point. -/
def dyAll (c : Dev nD) : Vec F S2048x1280 .bf16 := iblk m c 1 tFirst

theorem iblk_dy (c : Dev nD) (t : Fin cfg0.N) : iblk m c 1 t = dyAll m c := rfl

/-- The invariant after the first point: the three scratch buffers at the contents the first point left, and the
    generator register. -/
def held (c : Dev nD) : sProp 𝕄 :=
  iprop(iprop(owns (c : Thread nD τ) scM0_0 fullShare (codesBf (dyAll m c)) ∗ owns (c : Thread nD τ) scM0_1 fullShare (dyT (dyAll m c))
    ∗ owns (c : Thread nD τ) scM0_2 fullShare (scaleCols (dyAll m c))) ∗ (∃ r, prngReg c r))

/-- The proof data of the pipeline on core `c`: the arrays as the region finds them; after the body at point `t` each
    input's buffer at its block, the two blocked outputs at this point's blocks, the three outputs written once at what
    the first point wrote; before the first point the scratch at anything, from then on at `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxBlock (iblk m c 0 t) (dyAll m c) (iblk m c 3 t)
    | ⟨5, _⟩ => dwBlock (dyAll m c) (iblk m c 2 t)
    | ⟨6, _⟩ => colSums (dyAll m c)
    | ⟨7, _⟩ => codesOf (dyAll m c)
    | ⟨8, _⟩ => scaleRow (dyAll m c)
  Φ t := if t.val = 0 then Pipeline.ΦA spec0 c else held m c
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant before the first point, and after it. -/
theorem Phi_first (c : Dev nD) (t : Fin (cfg0.N + 1)) (h : t.val = 0) : (dats m 0 c).Φ t = Pipeline.ΦA spec0 c := by
  dsimp only [dats]; exact if_pos h

theorem Phi_later (c : Dev nD) (t : Fin (cfg0.N + 1)) (h : t.val ≠ 0) : (dats m 0 c).Φ t = held m c := by
  dsimp only [dats]; exact if_neg h

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = dxBlock (iblk m c 0 t) (dyAll m c) (iblk m c 3 t) := by dsimp only [dats]
theorem after0_5 (c : Dev nD) (t : Fin cfg0.N) : (dats m 0 c).after 5 t = dwBlock (dyAll m c) (iblk m c 2 t) := by dsimp only [dats]
theorem after0_6 (c : Dev nD) (t : Fin cfg0.N) : (dats m 0 c).after 6 t = colSums (dyAll m c) := by dsimp only [dats]
theorem after0_7 (c : Dev nD) (t : Fin cfg0.N) : (dats m 0 c).after 7 t = codesOf (dyAll m c) := by dsimp only [dats]
theorem after0_8 (c : Dev nD) (t : Fin cfg0.N) : (dats m 0 c).after 8 t = scaleRow (dyAll m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The three outputs written once -/

/-- They are idle at every point but the first, -/
theorem idle0_once (w : Fin cfg0.W) (hw : 6 ≤ w.val) (t : Fin cfg0.N) : cfg0.idle w (grid0.coords t) = !(k0_cond1 (grid0.coords t) == 1#1) := by
  have hW : w.val < 9 := w.isLt
  have h : w = 6 ∨ w = 7 ∨ w = 8 := by
    rcases (by omega : w.val = 6 ∨ w.val = 7 ∨ w.val = 8) with h | h | h
    · exact .inl (Fin.ext h)
    · exact .inr (.inl (Fin.ext h))
    · exact .inr (.inr (Fin.ext h))
  rcases h with rfl | rfl | rfl <;> rfl

theorem idle0_first (w : Fin cfg0.W) (hw : 6 ≤ w.val) (t : Fin cfg0.N) (ht : t.val = 0) : cfg0.idle w (grid0.coords t) = false := by
  rw [idle0_once w hw t]
  have h : k0_cond1 (grid0.coords t) = 1#1 := (hcond0_0 t).mpr (by omega)
  rw [h]; rfl

theorem idle0_later (w : Fin cfg0.W) (hw : 6 ≤ w.val) (t : Fin cfg0.N) (ht : t.val ≠ 0) : cfg0.idle w (grid0.coords t) = true := by
  have hN : t.val < 10 := lt_of_lt_of_eq t.isLt (show cfg0.N = 10 from N_0)
  rw [idle0_once w hw t]
  have h : k0_cond1 (grid0.coords t) ≠ 1#1 := fun e => by
    have := (hcond0_0 t).mp e; omega
  simp [h]

/-- are written back at the last point only, -/
theorem flush0_once (w : Fin cfg0.W) (hw : 6 ≤ w.val) (t : Fin cfg0.N) (ht : t.val < 9) : (cfg0.win w).flush t = false := by
  have hW : w.val < 9 := w.isLt
  have hn : ¬ t.val % 10 = 9 := by omega
  have h : w = 6 ∨ w = 7 ∨ w = 8 := by
    rcases (by omega : w.val = 6 ∨ w.val = 7 ∨ w.val = 8) with h | h | h
    · exact .inl (Fin.ext h)
    · exact .inr (.inl (Fin.ext h))
    · exact .inr (.inr (Fin.ext h))
  rcases h with rfl | rfl | rfl
  · exact Bool.eq_false_iff.mpr fun e => hn ((flush0_6 t).mp e)
  · exact Bool.eq_false_iff.mpr fun e => hn ((flush0_7 t).mp e)
  · exact Bool.eq_false_iff.mpr fun e => hn ((flush0_8 t).mp e)

/-- so after the first point their buffers are not fresh, -/
theorem fresh0_once (w : Fin cfg0.W) (hw : 6 ≤ w.val) : ∀ n, n < 9 → cfg0.fresh w (n + 1) = false := by
  intro n
  induction n with
  | zero =>
    intro _
    have hN : 0 < cfg0.N := by rw [show cfg0.N = 10 from N_0]; norm_num
    rw [Pipeline.Cfg.fresh_succ cfg0 w 0 hN, flush0_once w hw ⟨0, hN⟩ (by show 0 < 9; norm_num), Bool.false_or,
      show cfg0.idle w (cfg0.grid.coords ⟨0, hN⟩) = false from idle0_first w hw ⟨0, hN⟩ rfl, Bool.false_and]
  | succ n ih =>
    intro hn
    have hN : n + 1 < cfg0.N := by rw [show cfg0.N = 10 from N_0]; omega
    rw [Pipeline.Cfg.fresh_succ cfg0 w (n + 1) hN, flush0_once w hw ⟨n + 1, hN⟩ (by show n + 1 < 9; omega), Bool.false_or,
      ih (by omega), Bool.and_false]

/-- and hold what the first point wrote. -/
theorem before0_once (c : Dev nD) (w : Fin cfg0.W) (hw : 6 ≤ w.val) (hout : (cfg0.win w).isOut = true)
    (hclip : ∀ (i : cfg0.grid.Coords) a, (cfg0.win w).clip i a = none)
    (hconst : ∀ t t' : Fin cfg0.N, (dats m 0 c).after w t = (dats m 0 c).after w t') (t : Fin cfg0.N) (ht : t.val ≠ 0) (d) :
    (dats m 0 c).before w t d = (dats m 0 c).after w t := by
  have hN : t.val < 10 := lt_of_lt_of_eq t.isLt (show cfg0.N = 10 from N_0)
  rw [(dats m 0 c).before_out_traj w hout hclip (fun t _ _ _ => hconst _ _) t.val t rfl d]
  have hf : cfg0.fresh w t.val = false := by
    have h := fresh0_once w hw (t.val - 1) (by omega)
    rwa [show t.val - 1 + 1 = t.val by omega] at h
  rw [hf, if_neg Bool.false_ne_true]
  exact hconst _ _

/-- At a later point such an output's buffer, at what the first point wrote, is what the obligation asks for. -/
theorem leaves0_once (c : Dev nD) (w : Fin cfg0.W) (hw : 6 ≤ w.val) (hout : (cfg0.win w).isOut = true)
    (hclip : ∀ (i : cfg0.grid.Coords) a, (cfg0.win w).clip i a = none)
    (hconst : ∀ t t' : Fin cfg0.N, (dats m 0 c).after w t = (dats m 0 c).after w t') (t : Fin cfg0.N) (ht : t.val ≠ 0)
    (d : (cfg0.win w).block.Idx → Elt F (cfg0.win w).elt) :
    (owns (c : Thread nD τ) ((cfg0.win w).stage (cfg0.slots t w)) fullShare ((dats m 0 c).after w t) : sProp 𝕄)
      ⊢ (dats m 0 c).leavesExact w t := by
  have hi := idle0_later w hw t ht
  cases hf : (cfg0.win w).flush t
  · rw [(dats m 0 c).leavesExact_idle w t hi hf]
    iintro H
    iexists d
    rw [before0_once m c w hw hout hclip hconst t ht d]
    iexact H
  · unfold Dat.leavesExact
    rw [show cfg0.idle w (cfg0.grid.coords t) = true from hi, hf]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at the first point: the scratch and every output at anything; `run_first` names what it leaves. -/
theorem sound_first (c : Dev nD) (t : Fin cfg0.N) (h0 : t.val = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl,
      Phi_first m c t.castSucc h0, PhiA0_eq,
      Phi_later m c t.succ (Nat.succ_ne_zero _)]
    unfold held
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [show cfg0.idle 4 (cfg0.grid.coords t) = false from rfl], after0_4]
    rw [show (dats m 0 c).leavesExact 5 t = owns (c : Thread nD τ) (ms0_5 t) fullShare ((dats m 0 c).after 5 t) from by
      unfold Dat.leavesExact; rw [show cfg0.idle 5 (cfg0.grid.coords t) = false from rfl], after0_5]
    rw [show (dats m 0 c).leavesExact 6 t = owns (c : Thread nD τ) (ms0_6 t) fullShare ((dats m 0 c).after 6 t) from by
      unfold Dat.leavesExact; rw [show cfg0.idle 6 (cfg0.grid.coords t) = false from idle0_first 6 (by decide) t h0], after0_6]
    rw [show (dats m 0 c).leavesExact 7 t = owns (c : Thread nD τ) (ms0_7 t) fullShare ((dats m 0 c).after 7 t) from by
      unfold Dat.leavesExact; rw [show cfg0.idle 7 (cfg0.grid.coords t) = false from idle0_first 7 (by decide) t h0], after0_7]
    rw [show (dats m 0 c).leavesExact 8 t = owns (c : Thread nD τ) (ms0_8 t) fullShare ((dats m 0 c).after 8 t) from by
      unfold Dat.leavesExact; rw [show cfg0.idle 8 (cfg0.grid.coords t) = false from idle0_first 8 (by decide) t h0], after0_8]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_first c (grid0.coords t) _ _ _ _ _ _ _ _ _ _ _ _ _ _ _ _ _ _ _ _ _ _ _ _ ((hcond0_0 t).mpr (by omega)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option maxHeartbeats 2400000 in
/-- The body at a later point: the scratch at what the first point left, the outputs written once at what it wrote;
    `run_later` names what it leaves. -/
theorem sound_later (c : Dev nD) (t : Fin cfg0.N) (h0 : t.val ≠ 0) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    have b6 : ∀ d, (dats m 0 c).before 6 t d = colSums (dyAll m c) := fun d =>
      (before0_once m c 6 (by decide) rfl (fun _ _ => rfl) (fun _ _ => rfl) t h0 d).trans (after0_6 m c t)
    have b7 : ∀ d, (dats m 0 c).before 7 t d = codesOf (dyAll m c) := fun d =>
      (before0_once m c 7 (by decide) rfl (fun _ _ => rfl) (fun _ _ => rfl) t h0 d).trans (after0_7 m c t)
    have b8 : ∀ d, (dats m 0 c).before 8 t d = scaleRow (dyAll m c) := fun d =>
      (before0_once m c 8 (by decide) rfl (fun _ _ => rfl) (fun _ _ => rfl) t h0 d).trans (after0_8 m c t)
    unfold bodyPre bodyPost bodyAt0
    simp only [before0_0, before0_1, before0_2, before0_3, b6, b7, b8]
    rw [show (dats m 0 c).owesAt () t.succ = (dats m 0 c).owesAt () t.castSucc from rfl,
      Phi_later m c t.castSucc h0,
      Phi_later m c t.succ (Nat.succ_ne_zero _)]
    unfold held
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [show cfg0.idle 4 (cfg0.grid.coords t) = false from rfl], after0_4]
    rw [show (dats m 0 c).leavesExact 5 t = owns (c : Thread nD τ) (ms0_5 t) fullShare ((dats m 0 c).after 5 t) from by
      unfold Dat.leavesExact; rw [show cfg0.idle 5 (cfg0.grid.coords t) = false from rfl], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_later c (grid0.coords t) _ _ _ _ _ _ _ _ _ _ _ _ _ _ _ _ _ _ _ _ _ _ _ _ (fun h => h0 (by have := (hcond0_0 t).mp h; omega)) (iblk m c 0 t) (iblk m c 1 t) (iblk m c 2 t) (iblk m c 3 t)
      (colSums (dyAll m c)) (codesOf (dyAll m c)) (scaleRow (dyAll m c)) (codesBf (dyAll m c)) (dyT (dyAll m c)) (scaleCols (dyAll m c))) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves0_once m c 6 (by decide) rfl (fun _ _ => rfl) (fun _ _ => rfl) t h0 (colSums (dyAll m c))); iexact H6
    isplitl [H7]
    · iapply (leaves0_once m c 7 (by decide) rfl (fun _ _ => rfl) (fun _ _ => rfl) t h0 (codesOf (dyAll m c))); iexact H7
    iapply (leaves0_once m c 8 (by decide) rfl (fun _ _ => rfl) (fun _ _ => rfl) t h0 (scaleRow (dyAll m c))); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · exact sound_later m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch buffers at what the first point left are scratch buffers at some contents. -/
theorem held_any (c : Dev nD) : held m c ⊢ (Pipeline.ΦA spec0 c : sProp 𝕄) := by
  rw [PhiA0_eq]
  unfold held
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
set_option maxHeartbeats 800000 in
/-- The run of @main with the counters: `run_main`'s statement, and every semaphore counter at zero at every final state. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_first m c 0 rfl])
    (hout := fun c => by
      rw [Phi_later m c (Fin.last cfg0.N) (by
        show cfg0.N ≠ 0; rw [show cfg0.N = 10 from N_0]; norm_num)]
      exact held_any m c)

/-- Every weakly fair execution of @main terminates, every array of the pipeline at what the blocks make of it and every
    other buffer at what the host lines make of it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.KernelFrame.lean ====
/-
  Hand-written, untrusted. `Kernel` and `KernelIdeal` are one program under two names: the ideal pass had nothing to rewrite.
  Their body tables are equal, so the frame proved for the one, at any float instance, is the frame of the other.
-/
module

public import proofs.«01_k».proof.Proof.BodyFrame
public import proofs.«01_k».proof.Proof.Gen.Kernel.Frame

@[expose] public section

noncomputable section

namespace Cert.Kernel.Body

open Idealize.ShloMosaic Idealize.SL.Sem Cert.Kernel Idealize.ShloMosaic.TcCoe

variable {F : FTy → Type} [FloatOps F]
variable (m : (ℓ : Loc nD τ sig) → Buf (Elt F) ℓ) (ρ : Dev nD → PrngReg)

set_option maxRecDepth 65536 in
/-- The kernel bodies of the two programs are equal. -/
theorem defs₀_eq : (Cert.Kernel.defs₀ (F := F)) = Cert.KernelIdeal.defs₀ (F := F) := by
  unfold Cert.Kernel.defs₀ Cert.KernelIdeal.defs₀
  refine congrArg Defs.onTc ?_
  funext l a
  match l, a with
  | 0, (t, s) => with_unfolding_all rfl
  | ⟨_ + 1, h⟩, _ => exact absurd h (Nat.not_lt.2 (Nat.le_add_left _ _))

set_option maxRecDepth 65536 in
/-- The body tables of the two programs, the pipeline around the body included, are equal. -/
theorem defs_eq : (Cert.Kernel.defs (F := F)) = Cert.KernelIdeal.defs (F := F) :=
  congrArg (Pipeline.defs Cert.KernelIdeal.pcfgs) defs₀_eq

set_option maxRecDepth 65536 in
/-- The frame of `Kernel`: every execution terminates, the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Body.frame m ρ

end Cert.Kernel.Body

end
-- ==== Proof.RowMath.lean ====
/-
  One row of `dy` on the extended reals: its largest absolute value, its scale and the code of an element.
-/
module

public import Idealize.ShloMosaic.Lib.Pointwise.Tactic
public import Idealize.ShloMosaic.Lib.Pointwise.Select

@[expose] public section

set_option maxRecDepth 16384

noncomputable section

namespace Cert.Proof.Eqs

open Idealize.ShloMosaic Idealize.ShloMosaic.TcCoe

/-- The largest absolute value of a row, from minus infinity. -/
def rowMax (f : Fin 1280 → EReal) : EReal :=
  Finset.fold (FloatOps.maximumf (F := Ideal) (φ := .f32)) (FloatOps.ofBits (F := Ideal) .f32 0xFF800000#32)
    (fun k => FloatOps.absf (F := Ideal) (φ := .f32) (f k)) Finset.univ

/-- The scale of a row: its largest absolute value over 127, and one for a row of zeros. -/
def rowScale (f : Fin 1280 → EReal) : EReal :=
  if rowMax f = 0 then 1 else Ideal.div (rowMax f) (Ideal.ofBits FTy.f32 1123942400#32)

/-- The choice of the scale, at an index. -/
theorem select_at {t : Shape} (M : FVec Ideal t .f32) (i : t.Idx) :
    select (cmpf .oeq M (broadcast t (Scalar.ofBits .f32 0x00000000#32 : Ideal .f32))) (broadcast t (Scalar.ofBits .f32 0x3F800000#32 : Ideal .f32))
        (divf M (broadcast t (Scalar.ofBits .f32 0x42FE0000#32 : Ideal .f32))) i
      = if M i = 0 then 1 else Ideal.div (M i) (Ideal.ofBits FTy.f32 1123942400#32) := by
  pointwise

/-- The code of an element `x` at scale `s`: the quotient, rounded to the nearest integer (ties to even), clipped to -127 … 127. -/
def code (x s : EReal) : BitVec 8 :=
  FloatOps.fptosi (F := Ideal) (φ := .f32) 8
    (min (Ideal.ofBits FTy.f32 1123942400#32)
      (max (Ideal.ofBits FTy.f32 3271426048#32) (Ideal.liftRound Ideal.roundHalfEven (Ideal.div x s))))

/-- The rounding and clipping of a quotient, at an index. -/
theorem code_at {t : Shape} (M N : FVec Ideal t .f32) (i : t.Idx) :
    (fptosi 8 (minimumf (broadcast t (Scalar.ofBits .f32 0x42FE0000#32 : Ideal .f32))
        (maximumf (broadcast t (Scalar.ofBits .f32 0xC2FE0000#32 : Ideal .f32)) (roundeven (divf M N)))) : IVec t 8) i
      = code (M i) (N i) := by
  unfold code
  pointwise

end Cert.Proof.Eqs

end
-- ==== Proof.KernelValue.lean ====
/-
  The run of `KernelIdeal`'s @main with its results named, at any float instance: each of the five results as a function
  of the four arguments, over the payloads of the kernel's body.
-/
module

public import proofs.«01_k».proof.Proof.BodyFrame
public import Idealize.ShloMosaic.Lib.Pipeline.ValueKit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (idx2_lt0 idx2_lt1)

/-! ## The arrays as one function each -/

/-- Columns `512 t … 512 t + 511` of an array of 5120 columns. -/
def colTile {α : Type} {n : ℕ} (x : (⟨2, ![n, 5120]⟩ : Shape).Idx → α) (t : Fin 10) : (⟨2, ![n, 512]⟩ : Shape).Idx → α :=
  fun j => x (ix2 ⟨(j 0).val, idx2_lt0 j⟩ ⟨512 * t.val + (j 1).val, by have h : (j 1).val < 512 := idx2_lt1 j; omega⟩)

/-- Ten tiles of 512 columns as one array of 5120 columns: column `i` is column `i % 512` of tile `i / 512`. -/
def tileCols {α : Type} {n : ℕ} (f : Fin 10 → (⟨2, ![n, 512]⟩ : Shape).Idx → α) : (⟨2, ![n, 5120]⟩ : Shape).Idx → α :=
  fun i => f ⟨(i 1).val / 512, by have h : (i 1).val < 5120 := idx2_lt1 i; omega⟩
    (ix2 ⟨(i 0).val, idx2_lt0 i⟩ ⟨(i 1).val % 512, Nat.mod_lt _ (by norm_num)⟩)

/-- Tile `t` at an index is the array at the index in columns `512 t …`. -/
theorem tileCols_at {α : Type} {n : ℕ} (f : Fin 10 → (⟨2, ![n, 512]⟩ : Shape).Idx → α) (t : Fin 10) (y : (⟨2, ![n, 512]⟩ : Shape).Idx)
    (i : (⟨2, ![n, 5120]⟩ : Shape).Idx) (h0 : (i 0).val = (y 0).val) (h1 : (i 1).val = t.val * 512 + (y 1).val) : tileCols f i = f t y := by
  have hy : (y 1).val < 512 := idx2_lt1 y
  unfold tileCols
  congr 1
  · apply Fin.ext; show (i 1).val / 512 = t.val; omega
  · refine Eq.trans (congrArg₂ ix2 (Fin.ext ?_) (Fin.ext ?_)) (eq_ix2 y).symm
    · show (i 0).val = (y 0).val; exact h0
    · show (i 1).val % 512 = (y 1).val; omega

/-- The array of `dx`, of the flattened `dy`. -/
def dxAll (ws : Vec F S1 .f32) (dy : Vec F S2048x1280 .bf16) (w : Vec F S1280x5120 .i8) : Vec F S2048x5120 .bf16 :=
  tileCols fun t => dxBlock ws dy (colTile w t)

/-- The array of `dw`, of the flattened `dy` and `x`. -/
def dwAll (dy : Vec F S2048x1280 .bf16) (x : Vec F S2048x5120 .bf16) : Vec F S1280x5120 .f32 :=
  tileCols fun t => dwBlock dy (colTile x t)

variable (m : (ℓ : Loc nD τ sig) → Buf (Elt F) ℓ) (ρ : Dev nD → PrngReg)

/-! ## The blocks of the inputs -/

/-- The point as a tile number. -/
def tileOf (t : Fin cfg0.N) : Fin 10 := ⟨t.val, lt_of_lt_of_eq t.isLt (show cfg0.N = 10 from N_0)⟩

/-- The block indices: the blocked windows at the point's column tile, the others at zero. -/
theorem idx0_0 : ∀ t : Fin cfg0.N, win0_0.index t = ![0] := (by decide +kernel : ∀ t : Fin grid0.N, win0_0.index t = ![0])
theorem idx0_1 : ∀ t : Fin cfg0.N, win0_1.index t = ![0, 0] := (by decide +kernel : ∀ t : Fin grid0.N, win0_1.index t = ![0, 0])
theorem idx0_2 : ∀ t : Fin cfg0.N, win0_2.index t = ![0, t.val] := (by decide +kernel : ∀ t : Fin grid0.N, win0_2.index t = ![0, t.val])
theorem idx0_3 : ∀ t : Fin cfg0.N, win0_3.index t = ![0, t.val] := (by decide +kernel : ∀ t : Fin grid0.N, win0_3.index t = ![0, t.val])
theorem idx0_4 : ∀ t : Fin cfg0.N, win0_4.index t = ![0, t.val] := (by decide +kernel : ∀ t : Fin grid0.N, win0_4.index t = ![0, t.val])
theorem idx0_5 : ∀ t : Fin cfg0.N, win0_5.index t = ![0, t.val] := (by decide +kernel : ∀ t : Fin grid0.N, win0_5.index t = ![0, t.val])

/-- The scale's block is the scale. -/
theorem iblk_ws (c : Dev nD) (t : Fin cfg0.N) : iblk m c 0 t = V m c main_arg3 := by
  funext y
  blk_ext [iblk, idx0_0]

/-- The block of `dy` is the flattened `dy`. -/
theorem dyAll_eq (c : Dev nD) : dyAll m c = V m c main_v0 := by
  unfold dyAll
  funext y
  blk_ext [iblk, idx0_1]

/-- The block of `x` at a point is its column tile, -/
theorem iblk_x (c : Dev nD) (t : Fin cfg0.N) : iblk m c 2 t = colTile (n := 2048) (V m c main_v1) (tileOf t) := by
  funext y
  unfold colTile tileOf
  blk_ext [iblk, idx0_2]

/-- and so is the block of the weight codes. -/
theorem iblk_w (c : Dev nD) (t : Fin cfg0.N) : iblk m c 3 t = colTile (n := 1280) (V m c main_arg2) (tileOf t) := by
  funext y
  unfold colTile tileOf
  blk_ext [iblk, idx0_3]

/-! ## The output arrays after the run -/

/-- The array of `dx`. -/
theorem final_dx (c : Dev nD) : (dats m 0 c).arrAt 4 cfg0.N = dxAll (V m c main_arg3) (V m c main_v0) (V m c main_arg2) := by
  refine (dats m 0 c).arrAt_eq_of_covers 4 _ (by decide +kernel) fun t hf y => ?_
  blk_simp
  rw [after0_4, iblk_ws, dyAll_eq, iblk_w]
  refine (tileCols_at (n := 2048) (fun t => dxBlock (V m c main_arg3) (V m c main_v0) (colTile (V m c main_arg2) t)) (tileOf t) y _ ?_ ?_).symm
  · blk_simp [idx0_4]
  · blk_simp [idx0_4, tileOf]

/-- The array of `dw`. -/
theorem final_dw (c : Dev nD) : (dats m 0 c).arrAt 5 cfg0.N = dwAll (V m c main_v0) (V m c main_v1) := by
  refine (dats m 0 c).arrAt_eq_of_covers 5 _ (by decide +kernel) fun t hf y => ?_
  blk_simp
  rw [after0_5, dyAll_eq, iblk_x]
  refine (tileCols_at (n := 1280) (fun t => dwBlock (V m c main_v0) (colTile (V m c main_v1) t)) (tileOf t) y _ ?_ ?_).symm
  · blk_simp [idx0_5]
  · blk_simp [idx0_5, tileOf]

/-- The last grid point. -/
abbrev tLast : Fin cfg0.N := ⟨9, by rw [show cfg0.N = 10 from N_0]; norm_num⟩

/-- The array of the column sums. -/
theorem final_db (c : Dev nD) : (dats m 0 c).arrAt 6 cfg0.N = colSums (V m c main_v0) := by
  refine (dats m 0 c).arrAt_eq_of_after_last 6 tLast (by decide +kernel) _ fun j => ?_
  rw [after0_6, dyAll_eq]
  rfl

/-- The array of the codes. -/
theorem final_codes (c : Dev nD) : (dats m 0 c).arrAt 7 cfg0.N = codesOf (V m c main_v0) := by
  refine (dats m 0 c).arrAt_eq_of_after_last 7 tLast (by decide +kernel) _ fun j => ?_
  rw [after0_7, dyAll_eq]
  rfl

/-- The array of the scales. -/
theorem final_scales (c : Dev nD) : (dats m 0 c).arrAt 8 cfg0.N = scaleRow (V m c main_v0) := by
  refine (dats m 0 c).arrAt_eq_of_after_last 8 tLast (by decide +kernel) _ fun j => ?_
  rw [after0_8, dyAll_eq]
  rfl

/-! ## The host lines around the region -/

/-- The region finds the flattened `dy` -/
theorem V_dy (c : Dev nD) : V m c main_v0 = shapeCast S2048x1280 (m ((c : Thread nD τ).loc main_arg1)) shapeCasts_S2x1024x1280_S2048x1280 := by
  show StableHlo.after (List.flatten [hostOps0]) _ _ = _
  simp only [hostOps0, List.flatten_cons, List.flatten_nil, List.append_nil]
  after_results
  rfl

/-- and the flattened `x`. -/
theorem V_x (c : Dev nD) : V m c main_v1 = shapeCast S2048x5120 (m ((c : Thread nD τ).loc main_arg0)) shapeCasts_S2x1024x5120_S2048x5120 := by
  show StableHlo.after (List.flatten [hostOps0]) _ _ = _
  simp only [hostOps0, List.flatten_cons, List.flatten_nil, List.append_nil]
  after_results
  rfl

/-- The region's array behind an output window, as the later host lines find it. -/
theorem out_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) _ w

/-- The later host lines unflatten `dx`, -/
theorem tail_dx (c : Dev nD) : Pipeline.afterTail₀ cfgs (dats m) 0 (V0 m) [hostOps1] c main_v3
    = shapeCast S2x1024x5120 (dxAll (V m c main_arg3) (V m c main_v0) (V m c main_arg2)) shapeCasts_S2048x5120_S2x1024x5120 := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_0)
    = _ from (out_arr m c 4).trans (final_dx m c)]
  rfl

/-- drop the unit axis of the column sums, -/
theorem tail_db (c : Dev nD) : Pipeline.afterTail₀ cfgs (dats m) 0 (V0 m) [hostOps1] c main_v4
    = shapeCast S1280 (colSums (V m c main_v0)) shapeCasts_S1x1280_S1280 := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_2)
    = _ from (out_arr m c 6).trans (final_db m c)]
  rfl

/-- unflatten the codes -/
theorem tail_codes (c : Dev nD) : Pipeline.afterTail₀ cfgs (dats m) 0 (V0 m) [hostOps1] c main_v5
    = shapeCast S2x1024x1280 (codesOf (V m c main_v0)) shapeCasts_S2048x1280_S2x1024x1280 := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_3)
    = _ from (out_arr m c 7).trans (final_codes m c)]
  rfl

/-- and unflatten the scales. -/
theorem tail_scales (c : Dev nD) : Pipeline.afterTail₀ cfgs (dats m) 0 (V0 m) [hostOps1] c main_v6
    = shapeCast S2x1024 (scaleRow (V m c main_v0)) shapeCasts_S1x2048_S2x1024 := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_4)
    = _ from (out_arr m c 8).trans (final_scales m c)]
  rfl

/-! ## The run with its results named -/

/-- The flattened `dy` and the flattened `x`. -/
def flatDy (dy : Vec F S2x1024x1280 .bf16) : Vec F S2048x1280 .bf16 := shapeCast S2048x1280 dy shapeCasts_S2x1024x1280_S2048x1280
def flatX (x : Vec F S2x1024x5120 .bf16) : Vec F S2048x5120 .bf16 := shapeCast S2048x5120 x shapeCasts_S2x1024x5120_S2048x5120

/-- The five results as functions of the arguments. -/
def outDx (dy : Vec F S2x1024x1280 .bf16) (w : Vec F S1280x5120 .i8) (ws : Vec F S1 .f32) : Vec F S2x1024x5120 .bf16 :=
  shapeCast S2x1024x5120 (dxAll ws (flatDy dy) w) shapeCasts_S2048x5120_S2x1024x5120
def outDw (x : Vec F S2x1024x5120 .bf16) (dy : Vec F S2x1024x1280 .bf16) : Vec F S1280x5120 .f32 := dwAll (flatDy dy) (flatX x)
def outDb (dy : Vec F S2x1024x1280 .bf16) : Vec F S1280 .f32 := shapeCast S1280 (colSums (flatDy dy)) shapeCasts_S1x1280_S1280
def outCodes (dy : Vec F S2x1024x1280 .bf16) : Vec F S2x1024x1280 .i8 :=
  shapeCast S2x1024x1280 (codesOf (flatDy dy)) shapeCasts_S2048x1280_S2x1024x1280
def outScales (dy : Vec F S2x1024x1280 .bf16) : Vec F S2x1024 .f32 := shapeCast S2x1024 (scaleRow (flatDy dy)) shapeCasts_S1x2048_S2x1024

/-- Every weakly fair execution of @main terminates with the five results at these functions of the arguments, the
    arguments unchanged. -/
theorem run_value : θ_run defs (onTc (τ := τ) (main (F := F))) ⟨m, fun _ => 0, ρ⟩ (fun r => ∀ c : Dev nD,
      r.2.mem ((c.tc : Thread nD τ).loc main_v3)
        = outDx (m ((c.tc : Thread nD τ).loc main_arg1)) (m ((c.tc : Thread nD τ).loc main_arg2)) (m ((c.tc : Thread nD τ).loc main_arg3))
      ∧ r.2.mem ((c.tc : Thread nD τ).loc main_v2_1) = outDw (m ((c.tc : Thread nD τ).loc main_arg0)) (m ((c.tc : Thread nD τ).loc main_arg1))
      ∧ r.2.mem ((c.tc : Thread nD τ).loc main_v4) = outDb (m ((c.tc : Thread nD τ).loc main_arg1))
      ∧ r.2.mem ((c.tc : Thread nD τ).loc main_v5) = outCodes (m ((c.tc : Thread nD τ).loc main_arg1))
      ∧ r.2.mem ((c.tc : Thread nD τ).loc main_v6) = outScales (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (frame_of m ρ (dats m) (A_eq m) (run_main m ρ)))
  obtain ⟨hv, hf⟩ := h
  refine ⟨?_, ?_, ?_, ?_, ?_, hf c⟩
  · rw [(hv c).2 main_v3 (Pipeline.mem_restRefs_of main_v3 (by decide) (by decide)), tail_dx, V_main_arg3, V_dy, V_main_arg2]; rfl
  · refine ((hv c).1 5).trans ((final_dw m c).trans ?_)
    rw [V_dy, V_x]; rfl
  · rw [(hv c).2 main_v4 (Pipeline.mem_restRefs_of main_v4 (by decide) (by decide)), tail_db, V_dy]; rfl
  · rw [(hv c).2 main_v5 (Pipeline.mem_restRefs_of main_v5 (by decide) (by decide)), tail_codes, V_dy]; rfl
  · rw [(hv c).2 main_v6 (Pipeline.mem_restRefs_of main_v6 (by decide) (by decide)), tail_scales, V_dy]; rfl

end Cert.KernelIdeal.Body

end
-- ==== Proof.KernelPayloads.lean ====
/-
  The values the kernel's body computes, at an index, on the extended reals.
-/
module

public import proofs.«01_k».proof.Proof.RowMath
public import proofs.«01_k».proof.Proof.KernelValue
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Proof.Eqs

open Idealize.ShloMosaic Idealize.ShloMosaic.TcCoe

open Cert.KernelIdeal in
open Cert.KernelIdeal.Gen in
/-- The transposed chunk. -/
theorem pay9_at (v : Vec Ideal S256x1280 .bf16) (k : Fin 1280) (s : Fin 256) : k0_pay9 (F := Ideal) v (ix2 k s) = v (ix2 s k) := by
  unfold k0_pay9 k0_pay8
  pointwise

open Cert.KernelIdeal in
open Cert.KernelIdeal.Gen in
/-- The largest absolute value of a row of a chunk. -/
theorem max_at (v : Vec Ideal S256x1280 .bf16) (s : Fin 256) :
    (multiReduction .maximumf [1] S256 (absf (k0_pay10 (F := Ideal) v)) 0xFF800000#32 reduces_S256x1280_S256 (.inl rfl) rfl : FVec Ideal S256 .f32) (ix1 s)
      = rowMax fun k => v (ix2 s k) := by
  refine (multiReduction_maximumf_eq_fold _ _ _ _ _ _).trans ((Shape.Reduces.fold_fiber_r2_a1 _ _ _ _ _).trans ?_)
  unfold rowMax
  refine Finset.fold_congr fun k _ => ?_
  unfold k0_pay10 k0_pay8
  pointwise

open Cert.KernelIdeal in
open Cert.KernelIdeal.Gen in
/-- A vector as a column. -/
theorem column_at (M : FVec Ideal S256 .f32) (s : Fin 256) : shapeCast S256x1 M shapeCasts_S256_S256x1 (ix2 s 0) = M (ix1 s) := by
  pointwise

open Cert.KernelIdeal in
open Cert.KernelIdeal.Gen in
/-- The scale of a row of a chunk, -/
theorem pay12_at (v : Vec Ideal S256x1280 .bf16) (s : Fin 256) : k0_pay12 (F := Ideal) v (ix2 s 0) = rowScale fun k => v (ix2 s k) := by
  refine (select_at _ _).trans ?_
  rw [column_at, max_at]
  rfl

open Cert.KernelIdeal in
open Cert.KernelIdeal.Gen in
/-- in every lane, -/
theorem pay16_at (v : Vec Ideal S256x1280 .bf16) (s : Fin 256) (l : Fin 128) :
    k0_pay16 (F := Ideal) v (ix2 s l) = rowScale fun k => v (ix2 s k) := by
  rw [← pay12_at]
  unfold k0_pay16 k0_pay15
  pointwise

open Cert.KernelIdeal in
open Cert.KernelIdeal.Gen in
/-- and as a row. -/
theorem pay17_at (v : Vec Ideal S256x1280 .bf16) (s : Fin 256) :
    k0_pay17 (F := Ideal) (k0_pay15 v) (ix2 0 s) = rowScale fun k => v (ix2 s k) := by
  rw [← pay12_at]
  unfold k0_pay17 k0_pay15
  pointwise

open Cert.KernelIdeal in
open Cert.KernelIdeal.Gen in
/-- A column spread over the rows. -/
theorem spread_at (M : FVec Ideal S256x1 .f32) (s : Fin 256) (k : Fin 1280) :
    broadcastTo S256x1280 M broadcasts_S256x1_S256x1280 (ix2 s k) = M (ix2 s 0) := by
  pointwise

open Cert.KernelIdeal in
open Cert.KernelIdeal.Gen in
/-- The code of an element of a chunk, -/
theorem pay13_at (v : Vec Ideal S256x1280 .bf16) (s : Fin 256) (k : Fin 1280) :
    k0_pay13 (F := Ideal) v (ix2 s k) = code (v (ix2 s k)) (rowScale fun k => v (ix2 s k)) := by
  refine (code_at _ _ _).trans ?_
  rw [spread_at, pay12_at]
  unfold k0_pay10 k0_pay8
  rw [shapeCast_self]
  rfl

open Cert.KernelIdeal in
open Cert.KernelIdeal.Gen in
/-- and the code as a float. -/
theorem pay14_at (v : Vec Ideal S256x1280 .bf16) (s : Fin 256) (k : Fin 1280) :
    k0_pay14 (F := Ideal) v (ix2 s k)
      = FloatOps.sitofp (F := Ideal) FTy.bf16 (code (v (ix2 s k)) (rowScale fun k => v (ix2 s k))) := by
  rw [← pay13_at]
  unfold k0_pay14
  pointwise

open Cert.KernelIdeal in
open Cert.KernelIdeal.Gen in
/-- The column sums of a chunk, -/
theorem pay11_at (v : Vec Ideal S256x1280 .bf16) (o : Fin 1280) : k0_pay11 (F := Ideal) v (ix2 0 o) = ∑ s : Fin 256, (v (ix2 s o) : EReal) := by
  unfold k0_pay11 k0_pay10 k0_pay8
  pointwise

open Cert.KernelIdeal in
open Cert.KernelIdeal.Gen in
/-- and added to the sums so far. -/
theorem pay21_at (a : Vec Ideal S1x1280 .f32) (v : Vec Ideal S256x1280 .bf16) (o : Fin 1280) :
    k0_pay21 (F := Ideal) a v (ix2 0 o) = (a (ix2 0 o) : EReal) + ∑ s : Fin 256, (v (ix2 s o) : EReal) := by
  unfold_payloads
  pointwise

open Cert.KernelIdeal in
open Cert.KernelIdeal.Gen in
/-- A tile of `dx`. -/
theorem pay6_at (w : Vec Ideal S1280x512 .i8) (q : Vec Ideal S2048x1280 .bf16) (sc : Vec Ideal S2048x1 .f32) (ws : EReal) (r : Fin 2048) (i : Fin 512) :
    k0_pay6 (F := Ideal) w q sc ws (ix2 r i)
      = (∑ k : Fin 1280, (q (ix2 r k) : EReal) * FloatOps.sitofp (F := Ideal) FTy.bf16 (w (ix2 k i) : BitVec 8)) * sc (ix2 r 0) * ws := by
  unfold k0_pay6
  pointwise

open Cert.KernelIdeal in
open Cert.KernelIdeal.Gen in
/-- A tile of `dw`. -/
theorem pay7_at (q : Vec Ideal S1280x2048 .bf16) (x : Vec Ideal S2048x512 .bf16) (o : Fin 1280) (i : Fin 512) :
    k0_pay7 (F := Ideal) q x (ix2 o i) = ∑ r : Fin 2048, (q (ix2 o r) : EReal) * x (ix2 r i) := by
  unfold k0_pay7
  pointwise

end Cert.Proof.Eqs

end
-- ==== Proof.KernelArrays.lean ====
/-
  The arrays the kernel builds, at an index, on the extended reals: the flattened `dy` cut into eight chunks of 256 rows and put
  together again, and the columns cut into ten tiles of 512.
-/
module

public import proofs.«01_k».proof.Proof.KernelPayloads

@[expose] public section

set_option maxRecDepth 16384

noncomputable section

namespace Cert.Proof.Eqs

open Idealize.ShloMosaic Idealize.ShloMosaic.TcCoe

open Cert.KernelIdeal in
open Cert.KernelIdeal.Gen in
open Cert.KernelIdeal.Body in
/-- Chunk `r` is the rows from `256 r`. -/
theorem chunk_at (dy : Vec Ideal S2048x1280 .bf16) (r : Fin 8) (s : Fin 256) (k : Fin 1280) :
    chunk dy r (ix2 s k) = dy (ix2 ⟨r.val * 256 + s.val, by have := r.isLt; have := s.isLt; omega⟩ k) := by
  refine congrArg dy (funext fun a => Fin.ext ?_)
  refine (Rect.idx_unit_val (s := S2048x1280) ![256 * r.val, 0] S256x1280.size (inb_rows r) (ix2 s k) a).trans ?_
  match a with
  | 0 => exact congrArg (· + s.val) (Nat.mul_comm 256 r.val)
  | 1 => exact Nat.zero_add _

open Cert.KernelIdeal in
open Cert.KernelIdeal.Gen in
open Cert.KernelIdeal.Body in
/-- Row `R` is row `R % 256` of chunk `R / 256`. -/
theorem chunk_row (dy : Vec Ideal S2048x1280 .bf16) (R : Fin 2048) (h : R.val / 256 < 8) (h' : R.val % 256 < 256) (k : Fin 1280) :
    chunk dy ⟨R.val / 256, h⟩ (ix2 ⟨R.val % 256, h'⟩ k) = dy (ix2 R k) := by
  rw [chunk_at]
  exact congrArg (fun r => dy (ix2 r k)) (Fin.ext (show R.val / 256 * 256 + R.val % 256 = R.val by omega))

/-- A number under 2048 over 256 is under 8. -/
theorem div_lt (R : Fin 2048) : R.val / 256 < 8 := by have := R.isLt; omega
/-- Every remainder by 256 is under 256. -/
theorem mod_lt (R : Fin 2048) : R.val % 256 < 256 := Nat.mod_lt _ (by norm_num)

open Cert.KernelIdeal in
open Cert.KernelIdeal.Gen in
open Cert.KernelIdeal.Body in
/-- The array of the codes. -/
theorem codesOf_at (dy : Vec Ideal S2048x1280 .bf16) (R : Fin 2048) (k : Fin 1280) :
    codesOf (F := Ideal) dy (ix2 R k) = code (dy (ix2 R k)) (rowScale fun k => dy (ix2 R k)) := by
  refine (pay13_at (chunk dy ⟨R.val / 256, div_lt R⟩) ⟨R.val % 256, mod_lt R⟩ k).trans ?_
  simp only [chunk_row]

open Cert.KernelIdeal in
open Cert.KernelIdeal.Gen in
open Cert.KernelIdeal.Body in
/-- The array of the codes as floats. -/
theorem codesBf_at (dy : Vec Ideal S2048x1280 .bf16) (R : Fin 2048) (k : Fin 1280) :
    codesBf (F := Ideal) dy (ix2 R k)
      = FloatOps.sitofp (F := Ideal) FTy.bf16 (code (dy (ix2 R k)) (rowScale fun k => dy (ix2 R k))) := by
  refine (pay14_at (chunk dy ⟨R.val / 256, div_lt R⟩) ⟨R.val % 256, mod_lt R⟩ k).trans ?_
  simp only [chunk_row]

open Cert.KernelIdeal in
open Cert.KernelIdeal.Gen in
open Cert.KernelIdeal.Body in
/-- The transposed `dy`. -/
theorem dyT_at (dy : Vec Ideal S2048x1280 .bf16) (R : Fin 2048) (k : Fin 1280) : dyT (F := Ideal) dy (ix2 k R) = dy (ix2 R k) := by
  refine (pay9_at (chunk dy ⟨R.val / 256, div_lt R⟩) k ⟨R.val % 256, mod_lt R⟩).trans ?_
  rw [chunk_row]

open Cert.KernelIdeal in
open Cert.KernelIdeal.Gen in
open Cert.KernelIdeal.Body in
/-- The array of the scales, in every lane, -/
theorem scaleCols_at (dy : Vec Ideal S2048x1280 .bf16) (R : Fin 2048) (l : Fin 128) :
    scaleCols (F := Ideal) dy (ix2 R l) = rowScale fun k => dy (ix2 R k) := by
  refine (pay16_at (chunk dy ⟨R.val / 256, div_lt R⟩) ⟨R.val % 256, mod_lt R⟩ l).trans ?_
  simp only [chunk_row]

open Cert.KernelIdeal in
open Cert.KernelIdeal.Gen in
open Cert.KernelIdeal.Body in
/-- of which the first is taken, -/
theorem firstLane_at (sc : Vec Ideal S2048x128 .f32) (R : Fin 2048) : firstLane (F := Ideal) sc (ix2 R 0) = sc (ix2 R 0) := by
  refine congrArg sc (funext fun a => Fin.ext ?_)
  refine (Rect.idx_unit_val (s := S2048x128) ![0, 0] S2048x1.size inb_S2048x128_S2048x1_0_0 (ix2 R 0) a).trans ?_
  match a with
  | 0 => exact Nat.zero_add _
  | 1 => exact Nat.zero_add _

open Cert.KernelIdeal in
open Cert.KernelIdeal.Gen in
open Cert.KernelIdeal.Body in
/-- and as a row. -/
theorem scaleRow_at (dy : Vec Ideal S2048x1280 .bf16) (R : Fin 2048) :
    scaleRow (F := Ideal) dy (ix2 0 R) = rowScale fun k => dy (ix2 R k) := by
  refine (pay17_at (chunk dy ⟨R.val / 256, div_lt R⟩) ⟨R.val % 256, mod_lt R⟩).trans ?_
  simp only [chunk_row]

open Cert.KernelIdeal in
open Cert.KernelIdeal.Gen in
open Cert.KernelIdeal.Body in
/-- The column sums: eight sums of 256 rows are one sum of 2048 rows. -/
theorem colSums_at (dy : Vec Ideal S2048x1280 .bf16) (o : Fin 1280) :
    colSums (F := Ideal) dy (ix2 0 o) = ∑ R : Fin 2048, (dy (ix2 R o) : EReal) := by
  rw [Fin.sum_univ_tiles 8 256 (by norm_num) (fun R : Fin 2048 => (dy (ix2 R o) : EReal)), Fin.sum_univ_eight]
  unfold colSums
  simp only [pay21_at, pay11_at, chunk_at]

/-- Column `i` is column `i % 512` of tile `i / 512`. -/
theorem colTile_at {α : Type} {n : ℕ} (x : (⟨2, ![n, 5120]⟩ : Shape).Idx → α) (i : Fin 5120) (h : i.val / 512 < 10) (h' : i.val % 512 < 512) (r : Fin n) :
    Cert.KernelIdeal.Body.colTile x ⟨i.val / 512, h⟩ (ix2 r ⟨i.val % 512, h'⟩) = x (ix2 r i) :=
  congrArg (fun q => x (ix2 r q)) (Fin.ext (show 512 * (i.val / 512) + i.val % 512 = i.val by omega))

/-- A number under 5120 over 512 is under 10. -/
theorem tile_lt (i : Fin 5120) : i.val / 512 < 10 := by have := i.isLt; omega
/-- Every remainder by 512 is under 512. -/
theorem lane_lt (i : Fin 5120) : i.val % 512 < 512 := Nat.mod_lt _ (by norm_num)

open Cert.KernelIdeal in
open Cert.KernelIdeal.Gen in
open Cert.KernelIdeal.Body in
/-- The array of `dx`. -/
theorem dxAll_at (ws : Vec Ideal S1 .f32) (dy : Vec Ideal S2048x1280 .bf16) (w : Vec Ideal S1280x5120 .i8) (R : Fin 2048) (i : Fin 5120) :
    dxAll (F := Ideal) ws dy w (ix2 R i)
      = (∑ k : Fin 1280, FloatOps.sitofp (F := Ideal) FTy.bf16 (code (dy (ix2 R k)) (rowScale fun k => dy (ix2 R k)))
          * FloatOps.sitofp (F := Ideal) FTy.bf16 (w (ix2 k i) : BitVec 8)) * (rowScale fun k => dy (ix2 R k)) * ws (ix1 0) := by
  refine (pay6_at (colTile w ⟨i.val / 512, tile_lt i⟩) (codesBf dy) (firstLane (scaleCols dy)) (ws (ix1 0)) R ⟨i.val % 512, lane_lt i⟩).trans ?_
  rw [firstLane_at, scaleCols_at]
  refine congrArg (· * _ * _) (Finset.sum_congr rfl fun k _ => ?_)
  rw [codesBf_at, colTile_at]

open Cert.KernelIdeal in
open Cert.KernelIdeal.Gen in
open Cert.KernelIdeal.Body in
/-- The array of `dw`. -/
theorem dwAll_at (dy : Vec Ideal S2048x1280 .bf16) (x : Vec Ideal S2048x5120 .bf16) (o : Fin 1280) (i : Fin 5120) :
    dwAll (F := Ideal) dy x (ix2 o i) = ∑ R : Fin 2048, (dy (ix2 R o) : EReal) * x (ix2 R i) := by
  refine (pay7_at (dyT dy) (colTile x ⟨i.val / 512, tile_lt i⟩) o ⟨i.val % 512, lane_lt i⟩).trans ?_
  refine Finset.sum_congr rfl fun R _ => ?_
  rw [dyT_at, colTile_at]

end Cert.Proof.Eqs

end
-- ==== Proof.ReferenceValue.lean ====
/-
  The run of `ReferenceIdeal`'s @main with its results named, at any float instance: each of the five results as a function
  of the four arguments, over the payloads of the reference's body and its two host reductions.
-/
module

public import proofs.«01_k».proof.Proof.Gen.ReferenceIdeal.Frame
public import Idealize.ShloMosaic.Lib.Pipeline.ValueKit
public import Idealize.ShloMosaic.Lib.VecWindow

@[expose] public section

set_option maxRecDepth 16384

noncomputable section

namespace Cert.ReferenceIdeal.Body

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The body stores `dx` -/
theorem out_dx (c : Dev nD) (arg0 : Memref sig .tc .smem S1 .f32) (harg0 : arg0.IsWhole) (arg1 : Memref sig .tc .vmem S2x1024x1280 .bf16) (harg1 : arg1.IsWhole) (arg2 : Memref sig .tc .vmem S1280x5120 .i8) (harg2 : arg2.IsWhole) (arg3 : Memref sig .tc .vmem S2x1024x5120 .bf16) (harg3 : arg3.IsWhole) (arg4 : Memref sig .tc .vmem S2x1024x1280 .i8) (harg4 : arg4.IsWhole) (arg5 : Memref sig .tc .vmem S2x1024 .f32) (harg5 : arg5.IsWhole)
    (x0 : Vec F S1 .f32) (x1 : Vec F S2x1024x1280 .bf16) (x2 : Vec F S1280x5120 .i8) :
    out0_A_3 c arg0 harg0 arg1 harg1 arg2 harg2 arg3 harg3 arg4 harg4 arg5 harg5 x0 x1 x2 = k0_pay4 x1 x2 (x0 (ix1 0)) := by
  unfold out0_A_3
  refine (View.read_writes_full _ _ _ _ _).trans ?_
  refine congr (congr (congrArg k0_pay4 ?_) ?_) ?_
  · exact (View.readAt_full _ _ _).trans (harg1.read_unread _)
  · exact (View.readAt_full _ _ _).trans (harg2.read_unread _)
  · exact (congrFun ((View.readAt_full _ _ _).trans (harg0.read_unread _)) _).trans (congrArg x0 (funext fun a => by
      match a with
      | 0 => rfl))

/-- the codes -/
theorem out_codes (c : Dev nD) (arg0 : Memref sig .tc .smem S1 .f32) (harg0 : arg0.IsWhole) (arg1 : Memref sig .tc .vmem S2x1024x1280 .bf16) (harg1 : arg1.IsWhole) (arg2 : Memref sig .tc .vmem S1280x5120 .i8) (harg2 : arg2.IsWhole) (arg3 : Memref sig .tc .vmem S2x1024x5120 .bf16) (harg3 : arg3.IsWhole) (arg4 : Memref sig .tc .vmem S2x1024x1280 .i8) (harg4 : arg4.IsWhole) (arg5 : Memref sig .tc .vmem S2x1024 .f32) (harg5 : arg5.IsWhole)
    (x0 : Vec F S1 .f32) (x1 : Vec F S2x1024x1280 .bf16) (x2 : Vec F S1280x5120 .i8) :
    out0_A_4 c arg0 harg0 arg1 harg1 arg2 harg2 arg3 harg3 arg4 harg4 arg5 harg5 x0 x1 x2 = k0_pay3 x1 := by
  unfold out0_A_4
  refine (View.read_writes_full _ _ _ _ _).trans (congrArg k0_pay3 ?_)
  exact (View.readAt_full _ _ _).trans (harg1.read_unread _)

/-- and the scales. -/
theorem out_scales (c : Dev nD) (arg0 : Memref sig .tc .smem S1 .f32) (harg0 : arg0.IsWhole) (arg1 : Memref sig .tc .vmem S2x1024x1280 .bf16) (harg1 : arg1.IsWhole) (arg2 : Memref sig .tc .vmem S1280x5120 .i8) (harg2 : arg2.IsWhole) (arg3 : Memref sig .tc .vmem S2x1024x5120 .bf16) (harg3 : arg3.IsWhole) (arg4 : Memref sig .tc .vmem S2x1024x1280 .i8) (harg4 : arg4.IsWhole) (arg5 : Memref sig .tc .vmem S2x1024 .f32) (harg5 : arg5.IsWhole)
    (x0 : Vec F S1 .f32) (x1 : Vec F S2x1024x1280 .bf16) (x2 : Vec F S1280x5120 .i8) :
    out0_A_5 c arg0 harg0 arg1 harg1 arg2 harg2 arg3 harg3 arg4 harg4 arg5 harg5 x0 x1 x2 = k0_pay2 x1 := by
  unfold out0_A_5
  refine (View.read_writes_full _ _ _ _ _).trans (congrArg k0_pay2 ?_)
  exact (View.readAt_full _ _ _).trans (harg1.read_unread _)

variable (m : (ℓ : Loc nD τ sig) → Buf (Elt F) ℓ) (ρ : Dev nD → PrngReg)

/-! ## The blocks of the inputs: the whole arrays -/

/-- Every input's one block is at zero. -/
theorem idx0_0 : ∀ t : Fin cfg0.N, win0_0.index t = ![0] := (by decide +kernel : ∀ t : Fin grid0.N, win0_0.index t = ![0])
theorem idx0_1 : ∀ t : Fin cfg0.N, win0_1.index t = ![0, 0, 0] := (by decide +kernel : ∀ t : Fin grid0.N, win0_1.index t = ![0, 0, 0])
theorem idx0_2 : ∀ t : Fin cfg0.N, win0_2.index t = ![0, 0] := (by decide +kernel : ∀ t : Fin grid0.N, win0_2.index t = ![0, 0])

theorem iblk_ws (c : Dev nD) (t : Fin cfg0.N) : iblk m c 0 t = V m c main_arg3 := by
  funext y
  blk_ext [iblk, idx0_0]

theorem iblk_dy (c : Dev nD) (t : Fin cfg0.N) : iblk m c 1 t = V m c main_arg1 := by
  funext y
  blk_ext [iblk, idx0_1]

theorem iblk_w (c : Dev nD) (t : Fin cfg0.N) : iblk m c 2 t = V m c main_arg2 := by
  funext y
  blk_ext [iblk, idx0_2]

/-! ## The output arrays after the run -/

/-- The only grid point. -/
abbrev tOnly : Fin cfg0.N := ⟨0, by rw [show cfg0.N = 1 from N_0]; norm_num⟩

/-- The array of `dx`. -/
theorem final_dx (c : Dev nD) : (dats m 0 c).arrAt 3 cfg0.N = k0_pay4 (V m c main_arg1) (V m c main_arg2) (V m c main_arg3 (ix1 0)) := by
  refine (dats m 0 c).arrAt_eq_of_after_last 3 tOnly (by decide +kernel) _ fun j => ?_
  rw [after0_3]
  unfold outsAt0
  dsimp only
  rw [out_dx, iblk_ws, iblk_dy, iblk_w]
  rfl

/-- The array of the codes. -/
theorem final_codes (c : Dev nD) : (dats m 0 c).arrAt 4 cfg0.N = k0_pay3 (V m c main_arg1) := by
  refine (dats m 0 c).arrAt_eq_of_after_last 4 tOnly (by decide +kernel) _ fun j => ?_
  rw [after0_4]
  unfold outsAt0
  dsimp only
  rw [out_codes, iblk_dy]
  rfl

/-- The array of the scales. -/
theorem final_scales (c : Dev nD) : (dats m 0 c).arrAt 5 cfg0.N = k0_pay2 (V m c main_arg1) := by
  refine (dats m 0 c).arrAt_eq_of_after_last 5 tOnly (by decide +kernel) _ fun j => ?_
  rw [after0_5]
  unfold outsAt0
  dsimp only
  rw [out_scales, iblk_dy]
  rfl

/-! ## The host lines after the region -/

/-- They find `dy` as it was -/
theorem at_dy (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_arr spec0 (by decide) c (V0 m c) _ 1).trans
    (((dats m 0 c).arrAt_in 1 rfl _).trans ((A_eq m c 1).trans (V_main_arg1 m c)))

/-- and `x`. -/
theorem at_x (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne spec0 c (V0 m c) _ main_arg0 (by decide)).trans (V_main_arg0 m c)

/-- The product of `dy` and `x` over the tokens -/
def dwOf (x : Vec F S2x1024x5120 .bf16) (dy : Vec F S2x1024x1280 .bf16) : Vec F S1280x5120 .f32 :=
  Host.dotGeneral dot_S2x1024x1280_S2x1024x5120_S1280x5120_01_01_2_2_n_n none dy x

/-- and the sum of `dy` over the tokens. -/
def dbOf (dy : Vec F S2x1024x1280 .bf16) : Vec F S1280 .f32 :=
  Host.reduceAdd (extf .f32 dy bitsLt_bf16_f32 : FVec F S2x1024x1280 .f32) (constant S_ .f32 0x00000000#32) reducesTo_S2x1024x1280_S1280_d0_1 h_S_

/-- The host lines leave the product of `dy` and `x` -/
theorem tail_dw (c : Dev nD) : Pipeline.afterTail₀ cfgs (dats m) 0 (V0 m) [hostOps1] c main_v1
    = dwOf (m ((c : Thread nD τ).loc main_arg0)) (m ((c : Thread nD τ).loc main_arg1)) := by
  unfold Pipeline.afterTail₀
  simp only [hostOps1, List.flatten_cons, List.flatten_nil, List.append_nil]
  after_results
  rw [at_dy, at_x]
  rfl

/-- and the sum of `dy`. -/
theorem tail_db (c : Dev nD) : Pipeline.afterTail₀ cfgs (dats m) 0 (V0 m) [hostOps1] c main_v3
    = dbOf (m ((c : Thread nD τ).loc main_arg1)) := by
  unfold Pipeline.afterTail₀
  simp only [hostOps1, List.flatten_cons, List.flatten_nil, List.append_nil]
  after_results
  rw [at_dy]
  rfl

/-- Every weakly fair execution of @main terminates with the five results at these functions of the arguments, the
    arguments unchanged. -/
theorem run_value : θ_run defs (onTc (τ := τ) (main (F := F))) ⟨m, fun _ => 0, ρ⟩ (fun r => ∀ c : Dev nD,
      r.2.mem ((c.tc : Thread nD τ).loc main_v0_0)
        = k0_pay4 (m ((c.tc : Thread nD τ).loc main_arg1)) (m ((c.tc : Thread nD τ).loc main_arg2)) (m ((c.tc : Thread nD τ).loc main_arg3) (ix1 0))
      ∧ r.2.mem ((c.tc : Thread nD τ).loc main_v1) = dwOf (m ((c.tc : Thread nD τ).loc main_arg0)) (m ((c.tc : Thread nD τ).loc main_arg1))
      ∧ r.2.mem ((c.tc : Thread nD τ).loc main_v3) = dbOf (m ((c.tc : Thread nD τ).loc main_arg1))
      ∧ r.2.mem ((c.tc : Thread nD τ).loc main_v0_1) = k0_pay3 (F := F) (m ((c.tc : Thread nD τ).loc main_arg1))
      ∧ r.2.mem ((c.tc : Thread nD τ).loc main_v0_2) = k0_pay2 (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (frame_of m ρ (dats m) (A_eq m) (run_main m ρ)))
  obtain ⟨hv, hf⟩ := h
  refine ⟨?_, ?_, ?_, ?_, ?_, hf c⟩
  · refine ((hv c).1 3).trans ((final_dx m c).trans ?_)
    rw [V_main_arg1, V_main_arg2, V_main_arg3]
  · rw [(hv c).2 main_v1 (Pipeline.mem_restRefs_of main_v1 (by decide) (by decide)), tail_dw]
  · rw [(hv c).2 main_v3 (Pipeline.mem_restRefs_of main_v3 (by decide) (by decide)), tail_db]
  · refine ((hv c).1 4).trans ((final_codes m c).trans ?_)
    rw [V_main_arg1]
  · refine ((hv c).1 5).trans ((final_scales m c).trans ?_)
    rw [V_main_arg1]

end Cert.ReferenceIdeal.Body

end
-- ==== Proof.ReferencePayloads.lean ====
/-
  The reference's results at an index, on the extended reals: each as a sum or a row function of the arguments.
-/
module

public import proofs.«01_k».proof.Proof.RowMath
public import proofs.«01_k».proof.Proof.ReferenceValue
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Proof.Eqs

open Idealize.ShloMosaic Idealize.ShloMosaic.TcCoe

variable {n0 n1 n2 : Nat} {t : Shape}

/-- Of a rank-3 array reduced over its first two axes, the indices that drop to `j` are those with `j`'s coordinate on the
    last axis. -/
theorem fiber_first_two (h : (⟨3, ![n0, n1, n2]⟩ : Shape).ReducesTo [0, 1] t) (h0 : 0 < t.rank) (hs : t.size ⟨0, h0⟩ = n2) (j : t.Idx)
    (i : (⟨3, ![n0, n1, n2]⟩ : Shape).Idx) :
    h.drop i = j ↔ ∃ k : Fin n0 × Fin n1, ix3 k.1 k.2 ⟨(j ⟨0, h0⟩).val, Shape.coordLt (j ⟨0, h0⟩) hs⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, h0⟩)).symm
  · rintro ⟨k, rfl⟩
    funext b
    apply Fin.ext
    match b with
    | ⟨0, _⟩ => rfl
    | ⟨_ + 1, hb⟩ => exact absurd hb (by have : t.rank = 1 := h.1; omega)

/-- A sum over the first two axes of a rank-3 array, as a double sum. -/
theorem sum_first_two (h : (⟨3, ![n0, n1, n2]⟩ : Shape).ReducesTo [0, 1] t) (h0 : 0 < t.rank) (hs : t.size ⟨0, h0⟩ = n2) (j : t.Idx)
    (v : (⟨3, ![n0, n1, n2]⟩ : Shape).Idx → EReal) :
    ∑ i ∈ Finset.univ.filter (fun i => h.drop i = j), v i
      = ∑ k0 : Fin n0, ∑ k1 : Fin n1, v (ix3 k0 k1 ⟨(j ⟨0, h0⟩).val, Shape.coordLt (j ⟨0, h0⟩) hs⟩) := by
  refine (Finset.sum_filter_eq_sum_of_fiber _ (fun k : Fin n0 × Fin n1 => ix3 k.1 k.2 ⟨(j ⟨0, h0⟩).val, Shape.coordLt (j ⟨0, h0⟩) hs⟩)
    (fun _ _ e => Prod.ext (congrFun e 0) (congrFun e 1)) (fiber_first_two h h0 hs j) v).trans ?_
  simp only [Fintype.sum_prod_type]

open Cert.ReferenceIdeal in
open Cert.ReferenceIdeal.Gen in
/-- The reference's largest absolute value of a row of `dy`. -/
theorem ref_max (dy : Vec Ideal S2x1024x1280 .bf16) (b : Fin 2) (s : Fin 1024) :
    (multiReduction .maximumf [2] S2x1024 (absf (k0_pay1 (F := Ideal) dy)) 0xFF800000#32 reduces_S2x1024x1280_S2x1024 (.inl rfl) rfl : FVec Ideal S2x1024 .f32) (ix2 b s)
      = rowMax fun k => dy (ix3 b s k) := by
  refine (multiReduction_maximumf_eq_fold _ _ _ _ _ _).trans ((Shape.Reduces.fold_fiber_r3_a2 _ _ _ _ _).trans ?_)
  unfold rowMax
  refine Finset.fold_congr fun k _ => ?_
  unfold k0_pay1
  pointwise

open Cert.ReferenceIdeal in
open Cert.ReferenceIdeal.Gen in
/-- The reference's scale of a row of `dy`. -/
theorem ref_scale (dy : Vec Ideal S2x1024x1280 .bf16) (b : Fin 2) (s : Fin 1024) :
    k0_pay2 (F := Ideal) dy (ix2 b s) = rowScale fun k => dy (ix3 b s k) := by
  refine (select_at _ _).trans ?_
  rw [ref_max]
  rfl

open Cert.ReferenceIdeal in
open Cert.ReferenceIdeal.Gen in
/-- The row scales spread over the rows. -/
theorem ref_spread_at (M : FVec Ideal S2x1024 .f32) (b : Fin 2) (s : Fin 1024) (k : Fin 1280) :
    broadcastTo S2x1024x1280 (shapeCast S2x1024x1 M shapeCasts_S2x1024_S2x1024x1) broadcasts_S2x1024x1_S2x1024x1280 (ix3 b s k) = M (ix2 b s) := by
  pointwise

open Cert.ReferenceIdeal in
open Cert.ReferenceIdeal.Gen in
/-- The reference's code of an element of `dy`. -/
theorem ref_code (dy : Vec Ideal S2x1024x1280 .bf16) (b : Fin 2) (s : Fin 1024) (k : Fin 1280) :
    k0_pay3 (F := Ideal) dy (ix3 b s k) = code (dy (ix3 b s k)) (rowScale fun k => dy (ix3 b s k)) := by
  refine (code_at _ _ _).trans ?_
  rw [ref_spread_at, ref_scale]
  rfl

open Cert.ReferenceIdeal in
open Cert.ReferenceIdeal.Gen in
/-- The reference's `dx`: the product of the codes and the weight codes, times the two scales. -/
theorem ref_dx (dy : Vec Ideal S2x1024x1280 .bf16) (w : Vec Ideal S1280x5120 .i8) (ws : EReal) (b : Fin 2) (s : Fin 1024) (i : Fin 5120) :
    k0_pay4 (F := Ideal) dy w ws (ix3 b s i)
      = (∑ k : Fin 1280, FloatOps.sitofp (F := Ideal) FTy.bf16 (code (dy (ix3 b s k)) (rowScale fun k => dy (ix3 b s k)))
          * FloatOps.sitofp (F := Ideal) FTy.bf16 (w (ix2 k i) : BitVec 8)) * (rowScale fun k => dy (ix3 b s k)) * ws := by
  have e : ∀ (q : IVec S2x1024x1280 8) (sc : FVec Ideal S2x1024 .f32),
      truncf .bf16 (mulf (mulf (matmul dot_S2x1024x1280_S1280x5120_S2x1024x5120_2_0_01_1_n_n none (sitofp .bf16 q : FVec Ideal S2x1024x1280 .bf16)
          (sitofp .bf16 w : FVec Ideal S1280x5120 .bf16) (constant S2x1024x5120 .f32 0x00000000#32))
        (broadcastTo S2x1024x5120 (shapeCast S2x1024x1 sc shapeCasts_S2x1024_S2x1024x1) broadcasts_S2x1024x1_S2x1024x5120))
        (broadcast S2x1024x5120 (ws : Ideal .f32))) bitsLt_bf16_f32 (ix3 b s i)
      = (∑ k : Fin 1280, FloatOps.sitofp (F := Ideal) FTy.bf16 (q (ix3 b s k))
          * FloatOps.sitofp (F := Ideal) FTy.bf16 (w (ix2 k i) : BitVec 8)) * sc (ix2 b s) * ws := by
    intro q sc
    pointwise
  refine (e (k0_pay3 (F := Ideal) dy) (k0_pay2 (F := Ideal) dy)).trans ?_
  rw [ref_scale]
  refine congrArg (· * _ * ws) (Finset.sum_congr rfl fun k _ => ?_)
  rw [ref_code]

open Cert.ReferenceIdeal in
open Cert.ReferenceIdeal.Gen in
/-- The reference's `dw`. -/
theorem ref_dw (x : Vec Ideal S2x1024x5120 .bf16) (dy : Vec Ideal S2x1024x1280 .bf16) (o : Fin 1280) (i : Fin 5120) :
    Body.dwOf (F := Ideal) x dy (ix2 o i) = ∑ b : Fin 2, ∑ s : Fin 1024, (dy (ix3 b s o) : EReal) * x (ix3 b s i) := by
  unfold Body.dwOf
  pointwise

open Cert.ReferenceIdeal in
open Cert.ReferenceIdeal.Gen in
/-- The reference's `db`. -/
theorem ref_db (dy : Vec Ideal S2x1024x1280 .bf16) (o : Fin 1280) :
    Body.dbOf (F := Ideal) dy (ix1 o) = ∑ b : Fin 2, ∑ s : Fin 1024, (dy (ix3 b s o) : EReal) := by
  have e : Body.dbOf (F := Ideal) dy (ix1 o) = Ideal.ofBits FTy.f32 0x00000000#32
      + ∑ i ∈ Finset.univ.filter (fun i => reducesTo_S2x1024x1280_S1280_d0_1.drop i = ix1 o), (dy i : EReal) := rfl
  rw [e, Ideal.ofBits_zero_f32, zero_add, sum_first_two reducesTo_S2x1024x1280_S1280_d0_1 Nat.one_pos rfl]
  rfl

end Cert.Proof.Eqs

end
-- ==== Proof.Equations.lean ====
/-
  The kernel's five results equal the reference's, on the extended reals. Token `s` of batch `b` is row `1024 b + s` of the
  flattened arrays.
-/
module

public import proofs.«01_k».proof.Proof.KernelArrays
public import proofs.«01_k».proof.Proof.ReferencePayloads
public import Idealize.ShloMosaic.Lib.Pointwise.Sums

@[expose] public section

set_option maxRecDepth 16384

noncomputable section

namespace Cert.Proof.Eqs

open Idealize.ShloMosaic Idealize.ShloMosaic.TcCoe

/-- The row of token `s` of batch `b`. -/
def row (b : Fin 2) (s : Fin 1024) : Fin 2048 := ⟨b.val * 1024 + s.val, by have := b.isLt; have := s.isLt; omega⟩

/-- Both indices of an element have the same row-major position. -/
theorem flat_position {n : ℕ} (b : Fin 2) (s : Fin 1024) (k : Fin n) :
    ((⟨2, ![2048, n]⟩ : Shape).rowMajor (ix2 (row b s) k) : ℕ) = (⟨3, ![2, 1024, n]⟩ : Shape).rowMajor (ix3 b s k) := by
  rw [rowMajor_val2 (d := ![2048, n]) (ix2 (row b s) k) n rfl, rowMajor_val3 (d := ![2, 1024, n]) (ix3 b s k) (1024 * n) n rfl rfl]
  show (b.val * 1024 + s.val) * n + k.val = b.val * (1024 * n) + s.val * n + k.val
  ring

/-- The flattened array at a token's row is the array at the token, -/
theorem flat_at {α : Type} {n : ℕ} (v : (⟨3, ![2, 1024, n]⟩ : Shape).Idx → α)
    (h : (⟨3, ![2, 1024, n]⟩ : Shape).ShapeCasts ⟨2, ![2048, n]⟩) (b : Fin 2) (s : Fin 1024) (k : Fin n) :
    shapeCast (⟨2, ![2048, n]⟩ : Shape) v h (ix2 (row b s) k) = v (ix3 b s k) :=
  congrArg v (Shape.reshapeEquiv_eq_of_rowMajor _ (flat_position b s k).symm)

/-- and the unflattened array at a token is the array at the token's row. -/
theorem unflat_at {α : Type} {n : ℕ} (v : (⟨2, ![2048, n]⟩ : Shape).Idx → α)
    (h : (⟨2, ![2048, n]⟩ : Shape).ShapeCasts ⟨3, ![2, 1024, n]⟩) (b : Fin 2) (s : Fin 1024) (k : Fin n) :
    shapeCast (⟨3, ![2, 1024, n]⟩ : Shape) v h (ix3 b s k) = v (ix2 (row b s) k) :=
  congrArg v (Shape.reshapeEquiv_eq_of_rowMajor _ (flat_position b s k))

/-- A row of 2048 scales as two rows of 1024. -/
theorem unflat_row_at {α : Type} (v : (⟨2, ![1, 2048]⟩ : Shape).Idx → α)
    (h : (⟨2, ![1, 2048]⟩ : Shape).ShapeCasts ⟨2, ![2, 1024]⟩) (b : Fin 2) (s : Fin 1024) :
    shapeCast (⟨2, ![2, 1024]⟩ : Shape) v h (ix2 b s) = v (ix2 0 (row b s)) :=
  congrArg v (Shape.reshapeEquiv_eq_of_rowMajor _ (by
    rw [rowMajor_val2 (d := ![1, 2048]) (ix2 0 (row b s)) 2048 rfl, rowMajor_val2 (d := ![2, 1024]) (ix2 b s) 1024 rfl]
    show 0 * 2048 + (b.val * 1024 + s.val) = b.val * 1024 + s.val
    omega))

/-- A one-row array without its unit axis. -/
theorem drop_row_at {α : Type} (v : (⟨2, ![1, 1280]⟩ : Shape).Idx → α)
    (h : (⟨2, ![1, 1280]⟩ : Shape).ShapeCasts ⟨1, ![1280]⟩) (o : Fin 1280) :
    shapeCast (⟨1, ![1280]⟩ : Shape) v h (ix1 o) = v (ix2 0 o) :=
  congrArg v (Shape.reshapeEquiv_eq_of_rowMajor _ (by
    rw [rowMajor_val2 (d := ![1, 1280]) (ix2 0 o) 1280 rfl, rowMajor_val1 (d := ![1280]) (ix1 o)]
    show 0 * 1280 + o.val = o.val
    omega))

/-- A sum over the 2048 rows is the double sum over the tokens. -/
theorem sum_rows (f : Fin 2048 → EReal) : ∑ R : Fin 2048, f R = ∑ b : Fin 2, ∑ s : Fin 1024, f (row b s) :=
  Fin.sum_univ_tiles 2 1024 (by norm_num) f

open Cert.KernelIdeal in
open Cert.KernelIdeal.Gen in
open Cert.KernelIdeal.Body in
/-- The scales. -/
theorem scales_eq (dy : Vec Ideal S2x1024x1280 .bf16) :
    outScales (F := Ideal) dy = Cert.ReferenceIdeal.Gen.k0_pay2 (F := Ideal) dy := by
  funext j
  obtain ⟨b, s, rfl⟩ : ∃ (b : Fin 2) (s : Fin 1024), j = ix2 b s := ⟨j 0, j 1, eq_ix2 j⟩
  refine (unflat_row_at _ _ b s).trans ((scaleRow_at _ _).trans ?_)
  rw [ref_scale]
  exact congrArg rowScale (funext fun k => flat_at dy _ b s k)

open Cert.KernelIdeal in
open Cert.KernelIdeal.Gen in
open Cert.KernelIdeal.Body in
/-- The codes. -/
theorem codes_eq (dy : Vec Ideal S2x1024x1280 .bf16) :
    outCodes (F := Ideal) dy = Cert.ReferenceIdeal.Gen.k0_pay3 (F := Ideal) dy := by
  funext j
  obtain ⟨b, s, k, rfl⟩ : ∃ (b : Fin 2) (s : Fin 1024) (k : Fin 1280), j = ix3 b s k := ⟨j 0, j 1, j 2, eq_ix3 j⟩
  refine (unflat_at _ _ b s k).trans ((codesOf_at _ _ _).trans ?_)
  rw [ref_code]
  exact congrArg₂ code (flat_at dy _ b s k) (congrArg rowScale (funext fun k => flat_at dy _ b s k))

open Cert.KernelIdeal in
open Cert.KernelIdeal.Gen in
open Cert.KernelIdeal.Body in
/-- `dx`. -/
theorem dx_eq (dy : Vec Ideal S2x1024x1280 .bf16) (w : Vec Ideal S1280x5120 .i8) (ws : Vec Ideal S1 .f32) :
    outDx (F := Ideal) dy w ws = Cert.ReferenceIdeal.Gen.k0_pay4 (F := Ideal) dy w (ws (ix1 0)) := by
  funext j
  obtain ⟨b, s, i, rfl⟩ : ∃ (b : Fin 2) (s : Fin 1024) (i : Fin 5120), j = ix3 b s i := ⟨j 0, j 1, j 2, eq_ix3 j⟩
  have hf : ∀ k, flatDy (F := Ideal) dy (ix2 (row b s) k) = dy (ix3 b s k) := fun k => flat_at dy _ b s k
  refine (unflat_at _ _ b s i).trans ((dxAll_at _ _ _ _ _).trans ?_)
  rw [ref_dx]
  simp only [hf]

open Cert.KernelIdeal in
open Cert.KernelIdeal.Gen in
open Cert.KernelIdeal.Body in
/-- `dw`. -/
theorem dw_eq (x : Vec Ideal S2x1024x5120 .bf16) (dy : Vec Ideal S2x1024x1280 .bf16) :
    outDw (F := Ideal) x dy = Cert.ReferenceIdeal.Body.dwOf (F := Ideal) x dy := by
  funext j
  obtain ⟨o, i, rfl⟩ : ∃ (o : Fin 1280) (i : Fin 5120), j = ix2 o i := ⟨j 0, j 1, eq_ix2 j⟩
  refine (dwAll_at _ _ _ _).trans ((sum_rows _).trans ?_)
  rw [ref_dw]
  refine Finset.sum_congr rfl fun b _ => Finset.sum_congr rfl fun s _ => ?_
  exact congrArg₂ (fun p q : EReal => p * q) (flat_at dy _ b s o) (flat_at x _ b s i)

open Cert.KernelIdeal in
open Cert.KernelIdeal.Gen in
open Cert.KernelIdeal.Body in
/-- `db`. -/
theorem db_eq (dy : Vec Ideal S2x1024x1280 .bf16) : outDb (F := Ideal) dy = Cert.ReferenceIdeal.Body.dbOf (F := Ideal) dy := by
  funext j
  obtain ⟨o, rfl⟩ : ∃ o : Fin 1280, j = ix1 o := ⟨j 0, eq_ix1 j⟩
  refine (drop_row_at _ _ o).trans ((colSums_at _ _).trans ((sum_rows _).trans ?_))
  rw [ref_db]
  exact Finset.sum_congr rfl fun b _ => Finset.sum_congr rfl fun s _ => flat_at dy _ b s o

end Cert.Proof.Eqs

end
-- ==== Proof.Algebraic.lean ====
/-
  The value claim: on the extended reals the kernel and the reference, from equal arguments, end with equal results.
-/
module

public import proofs.«01_k».proof.Proof.KernelFrame
public import proofs.«01_k».proof.Proof.Equations
public import proofs.«01_k».proof.Defs

@[expose] public section

set_option maxRecDepth 16384

noncomputable section

namespace Cert.Proof.Algebraic

open Idealize.ShloMosaic Idealize.ShloMosaic.TcCoe Idealize.SL.Sem
open Cert.KernelIdeal.Body (outDx outDw outDb outCodes outScales)
open Cert.Proof.Eqs

/-- The kernel and the reference, from equal arguments, end with equal results: the five results are the kernel's functions of
    its arguments, and each of them is the reference's function of the same arguments. -/
theorem algebraic : Cert.algebraic_KernelIdeal_ReferenceIdeal := by
  intro m g m' g' _ hm
  refine ⟨fun c => outDx (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => outDw (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => outDb (m ((c.tc : Thread Cert.KernelIdeal.nD Cert.KernelIdeal.τ).loc Cert.KernelIdeal.main_arg1)),
    fun c => outCodes (F := Ideal) (m ((c.tc : Thread Cert.KernelIdeal.nD Cert.KernelIdeal.τ).loc Cert.KernelIdeal.main_arg1)),
    fun c => outScales (F := Ideal) (m ((c.tc : Thread Cert.KernelIdeal.nD Cert.KernelIdeal.τ).loc Cert.KernelIdeal.main_arg1)),
    Cert.KernelIdeal.Body.run_value m g, ?_⟩
  refine (θ_run Cert.ReferenceIdeal.defs _ _).mono (fun r h c => ?_) (Cert.ReferenceIdeal.Body.run_value (F := Ideal) m' g')
  obtain ⟨h0, h1, h2, h3, h4, hargs⟩ := h c
  obtain ⟨e0, e1, e2, e3⟩ := hm c
  refine ⟨h0.trans ?_, h1.trans ?_, h2.trans ?_, h3.trans ?_, h4.trans ?_, hargs⟩
  · rw [e1, e2, e3]; exact (dx_eq _ _ _).symm
  · rw [e0, e1]; exact (dw_eq _ _).symm
  · rw [e1]; exact (db_eq _).symm
  · rw [e1]; exact (codes_eq _).symm
  · rw [e1]; exact (scales_eq _).symm

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Body.frame m ρ, fun m ρ _ => Cert.KernelIdeal.Body.frame m ρ,
    fun m ρ _ => Cert.ReferenceIdeal.Gen.frame m ρ, trivial, Cert.Proof.Algebraic.algebraic⟩⟩

end Cert.Proof

end
